-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook [hPre_codebook : Cert.Pre_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook [hPre_codebook : Cert.Pre_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebook [hKernelIdeal : Cert.KernelIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebook [hReferenceIdeal : Cert.ReferenceIdeal.Facts] [hPre_codebook : Cert.Pre_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebook [hKernelIdeal : Cert.KernelIdeal.Facts] [hReferenceIdeal : Cert.ReferenceIdeal.Facts] [hPre_codebook : Cert.Pre_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebook : Cert.Pre_codebook.Facts),
    quiescent_Kernel (hKernel := hKernel)
    ∧ quiescent_KernelIdeal (hKernelIdeal := hKernelIdeal)
    ∧ quiescent_KernelIdeal_pre_codebook (hKernelIdeal := hKernelIdeal) (hPre_codebook := hPre_codebook)
    ∧ quiescent_ReferenceIdeal (hReferenceIdeal := hReferenceIdeal)
    ∧ quiescent_ReferenceIdeal_pre_codebook (hReferenceIdeal := hReferenceIdeal) (hPre_codebook := hPre_codebook)
    ∧ preserves_Kernel_KernelIdeal
    ∧ algebraic_KernelIdeal_ReferenceIdeal_pre_codebook (hKernelIdeal := hKernelIdeal) (hReferenceIdeal := hReferenceIdeal) (hPre_codebook := hPre_codebook)
-- ==== Pre_codebook.lean ====
abbrev S32x4096x2x4 : Shape := ⟨4, ![32, 4096, 2, 4]⟩
abbrev S256x8 : Shape := ⟨2, ![256, 8]⟩
abbrev S_ : Shape := ⟨0, ![]⟩

class Facts : Prop where
  bcast_S_S256x8 : S_.BroadcastsInDim S256x8 (![] : Fin 0 → Fin S256x8.rank)
  bcast_S_S32x4096x2x4 : S_.BroadcastsInDim S32x4096x2x4 (![] : Fin 0 → Fin S32x4096x2x4.rank)
  reducesTo_S32x4096x2x4_S_d0_1_2_3 : S32x4096x2x4.ReducesTo [0, 1, 2, 3] S_
  h_S_ : 0 < S_.numel
  reducesTo_S256x8_S_d0_1 : S256x8.ReducesTo [0, 1] S_

variable [Facts]

def fn {F : FTy → Type} [FloatOps F] (main_arg0 : FVec F S32x4096x2x4 .f32) (main_arg1 : FVec F S256x8 .f32) : IVec S_ 1 :=
  let main_v0 : IVec S256x8 32 := iotaInDim S256x8 32 0
  let main_v1 : IVec S256x8 32 := iotaInDim S256x8 32 1
  let main_v2 : IVec S256x8 32 := Host.shrsi main_v0 main_v1
  let main_c : IVec S_ 32 := constantI S_ 32 1#32
  let main_v3 : IVec S256x8 32 := broadcastInDim S256x8 ![] bcast_S_S256x8 main_c
  let main_v4 : IVec S256x8 32 := andi main_v2 main_v3
  let main_v5 : FVec F S256x8 .f32 := sitofp .f32 main_v4
  let main_v6 : FVec F S32x4096x2x4 .f32 := Host.absf main_arg0
  let main_cst : FVec F S_ .f32 := constant S_ .f32 0x7F800000#32
  let main_v7 : FVec F S32x4096x2x4 .f32 := broadcastInDim S32x4096x2x4 ![] bcast_S_S32x4096x2x4 main_cst
  let main_v8 : IVec S32x4096x2x4 1 := cmpf .olt main_v6 main_v7
  let main_c_0 : IVec S_ 1 := constantI S_ 1 1#1
  let main_v9 : IVec S_ 1 := (fun x v => Host.reduce IntOp.andi x v reducesTo_S32x4096x2x4_S_d0_1_2_3 h_S_) main_v8 main_c_0
  let main_v10 : IVec S256x8 1 := cmpf .oeq main_arg1 main_v5
  let main_c_1 : IVec S_ 1 := constantI S_ 1 1#1
  let main_v11 : IVec S_ 1 := (fun x v => Host.reduce IntOp.andi x v reducesTo_S256x8_S_d0_1 h_S_) main_v10 main_c_1
  let main_v12 : IVec S_ 1 := andi main_v9 main_v11
  main_v12
-- ==== Kernel.lean ====
abbrev S32x4096x2x4 : Shape := ⟨4, ![32, 4096, 2, 4]⟩
abbrev S256x8 : Shape := ⟨2, ![256, 8]⟩
abbrev S1048576 : Shape := ⟨1, ![1048576]⟩
abbrev S131072 : Shape := ⟨1, ![131072]⟩
abbrev S32768 : Shape := ⟨1, ![32768]⟩
abbrev S4096 : Shape := ⟨1, ![4096]⟩
abbrev S_ : Shape := ⟨0, ![]⟩
abbrev S16 : Shape := ⟨1, ![16]⟩
abbrev S32x4096 : Shape := ⟨2, ![32, 4096]⟩

abbrev nBuf : Table → Nat
  | .hbm => 5
  | .local .scVector .vmem => 2
  | _ => 0

abbrev bufTy : (tb : Table) → Fin (nBuf tb) → BufTy
  | .hbm, ⟨0, _⟩ => ⟨S32x4096x2x4, .f32⟩
  | .hbm, ⟨1, _⟩ => ⟨S256x8, .f32⟩
  | .hbm, ⟨2, _⟩ => ⟨S1048576, .f32⟩
  | .hbm, ⟨3, _⟩ => ⟨S131072, .i32⟩
  | .hbm, ⟨4, _⟩ => ⟨S32x4096, .i32⟩
  | .local .scVector .vmem, ⟨0, _⟩ => ⟨S32768, .f32⟩
  | .local .scVector .vmem, ⟨1, _⟩ => ⟨S4096, .i32⟩
  | _, _ => ⟨S32x4096x2x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_26 : BitVec 32 := 0#32
  let c256_i32 : BitVec 32 := 256#32
  let v77 : BitVec 32 := Scalar.addi c0_i32_26 c256_i32
  let c1_i32_27 : BitVec 32 := 1#32
  ⟨c0_i32_26, v77, c1_i32_27⟩

def k0_chk1 (v81 : IVec S16 32) : Prop :=
  (∀ a x, ((![v81] : Fin 1 → IVec S16 32) a x).toNat < S32768.size a)
theorem k0_idx1_inb : ∀ (v81 : IVec S16 32) (k0_hw1 : k0_chk1 v81), ∀ a x, ((![v81] : Fin 1 → IVec S16 32) a x).toNat < S32768.size a := fun v81 k0_hw1 => k0_hw1

def k0_chk2 (v88 : IVec S16 32) : Prop :=
  (∀ a x, ((![v88] : Fin 1 → IVec S16 32) a x).toNat < S32768.size a)
theorem k0_idx2_inb : ∀ (v88 : IVec S16 32) (k0_hw2 : k0_chk2 v88), ∀ a x, ((![v88] : Fin 1 → IVec S16 32) a x).toNat < S32768.size a := fun v88 k0_hw2 => k0_hw2

def k0_chk3 (v95 : IVec S16 32) : Prop :=
  (∀ a x, ((![v95] : Fin 1 → IVec S16 32) a x).toNat < S32768.size a)
theorem k0_idx3_inb : ∀ (v95 : IVec S16 32) (k0_hw3 : k0_chk3 v95), ∀ a x, ((![v95] : Fin 1 → IVec S16 32) a x).toNat < S32768.size a := fun v95 k0_hw3 => k0_hw3

def k0_chk4 (v102 : IVec S16 32) : Prop :=
  (∀ a x, ((![v102] : Fin 1 → IVec S16 32) a x).toNat < S32768.size a)
theorem k0_idx4_inb : ∀ (v102 : IVec S16 32) (k0_hw4 : k0_chk4 v102), ∀ a x, ((![v102] : Fin 1 → IVec S16 32) a x).toNat < S32768.size a := fun v102 k0_hw4 => k0_hw4

def k0_chk5 (v109 : IVec S16 32) : Prop :=
  (∀ a x, ((![v109] : Fin 1 → IVec S16 32) a x).toNat < S32768.size a)
theorem k0_idx5_inb : ∀ (v109 : IVec S16 32) (k0_hw5 : k0_chk5 v109), ∀ a x, ((![v109] : Fin 1 → IVec S16 32) a x).toNat < S32768.size a := fun v109 k0_hw5 => k0_hw5

def k0_chk6 (v116 : IVec S16 32) : Prop :=
  (∀ a x, ((![v116] : Fin 1 → IVec S16 32) a x).toNat < S32768.size a)
theorem k0_idx6_inb : ∀ (v116 : IVec S16 32) (k0_hw6 : k0_chk6 v116), ∀ a x, ((![v116] : Fin 1 → IVec S16 32) a x).toNat < S32768.size a := fun v116 k0_hw6 => k0_hw6

def k0_chk7 (v123 : IVec S16 32) : Prop :=
  (∀ a x, ((![v123] : Fin 1 → IVec S16 32) a x).toNat < S32768.size a)
theorem k0_idx7_inb : ∀ (v123 : IVec S16 32) (k0_hw7 : k0_chk7 v123), ∀ a x, ((![v123] : Fin 1 → IVec S16 32) a x).toNat < S32768.size a := fun v123 k0_hw7 => k0_hw7

def k0_chk8 (v130 : IVec S16 32) : Prop :=
  (∀ a x, ((![v130] : Fin 1 → IVec S16 32) a x).toNat < S32768.size a)
theorem k0_idx8_inb : ∀ (v130 : IVec S16 32) (k0_hw8 : k0_chk8 v130), ∀ a x, ((![v130] : Fin 1 → IVec S16 32) a x).toNat < S32768.size a := fun v130 k0_hw8 => k0_hw8
def k0_off2 (k0_t1 : Fin k0_t1_loop.trips) : Fin 1 → Nat :=
  let c0_i32_26 : BitVec 32 := 0#32
  let c1_i32_27 : BitVec 32 := 1#32
  let arg6 : BitVec 32 := Scf.iv c0_i32_26 c1_i32_27 k0_t1
  let c16_i32 : BitVec 32 := 16#32
  let v136 : BitVec 32 := Scalar.muli arg6 c16_i32
  let v137 : Index := Scalar.indexCast v136
  ![v137.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v78 : BitVec 32 := Scalar.muli v1 c4096_i32
  ![v78.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x4096x2x4 : Shape := ⟨4, ![32, 4096, 2, 4]⟩
abbrev S256x8 : Shape := ⟨2, ![256, 8]⟩
abbrev S131072x8 : Shape := ⟨2, ![131072, 8]⟩
abbrev S8x256 : Shape := ⟨2, ![8, 256]⟩
abbrev S_ : Shape := ⟨0, ![]⟩
abbrev S131072 : Shape := ⟨1, ![131072]⟩
abbrev S131072x1 : Shape := ⟨2, ![131072, 1]⟩
abbrev S131072x256 : Shape := ⟨2, ![131072, 256]⟩
abbrev S256 : Shape := ⟨1, ![256]⟩
abbrev S1x256 : Shape := ⟨2, ![1, 256]⟩
abbrev S32x4096 : Shape := ⟨2, ![32, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32x4096x2x4, .f32⟩
  | .hbm, ⟨1, _⟩ => ⟨S256x8, .f32⟩
  | .hbm, ⟨2, _⟩ => ⟨S131072x8, .f32⟩
  | .hbm, ⟨3, _⟩ => ⟨S8x256, .f32⟩
  | .hbm, ⟨4, _⟩ => ⟨S131072x8, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S131072x256, .f32⟩
  | .hbm, ⟨9, _⟩ => ⟨S_, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S8x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .i32⟩
  | .hbm, ⟨22, _⟩ => ⟨S_, .f32⟩
  | .hbm, ⟨23, _⟩ => ⟨S_, .i32⟩
  | .hbm, ⟨24, _⟩ => ⟨S131072, .f32⟩
  | .hbm, ⟨25, _⟩ => ⟨S131072, .i32⟩
  | .hbm, ⟨26, _⟩ => ⟨S32x4096, .i32⟩
  | _, _ => ⟨S32x4096x2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Word.lean ====
/-
  The code of one window, at every float instance: the 32-bit word whose bit `b` says whether projection `b` of the window lies above one
  half. The kernel adds the eight words `1 << b` of the bits that are set in an order that differs from lane to lane; the sum does not
  depend on the order.
-/
module

public import Idealize.ShloMosaic.PureOps

@[expose] public section

noncomputable section

namespace Cert.Proof.Word

open Idealize.ShloMosaic

variable {F : FTy → Type} [FloatOps F]

/-- What projection `b` of a window adds to its code: `1 << b` if the projection is above one half, else zero. -/
def bit (v : F .f32) (b : ℕ) : BitVec 32 :=
  Scalar.select (FloatOps.cmpf .ogt v (Scalar.ofBits .f32 0x3F000000#32)) (1#32 <<< b) 0#32

/-- The code of a window of eight projections. -/
def code (y : ℕ → F .f32) : BitVec 32 :=
  bit (y 0) 0 + bit (y 1) 1 + bit (y 2) 2 + bit (y 3) 3 + bit (y 4) 4 + bit (y 5) 5 + bit (y 6) 6 + bit (y 7) 7

/-- A window's code depends on its eight projections alone. -/
theorem code_congr {y z : ℕ → F .f32} (h : ∀ b, b < 8 → y b = z b) : code y = code z := by
  unfold code
  rw [h 0 (by decide), h 1 (by decide), h 2 (by decide), h 3 (by decide), h 4 (by decide), h 5 (by decide), h 6 (by decide), h 7 (by decide)]

/-- A sum of eight words over the residues modulo eight, begun anywhere, is the sum begun at zero. -/
theorem sum_rotate (s : ℕ → BitVec 32) (l : ℕ) :
    0#32 + s ((l + 0) % 8) + s ((l + 1) % 8) + s ((l + 2) % 8) + s ((l + 3) % 8) + s ((l + 4) % 8) + s ((l + 5) % 8) + s ((l + 6) % 8) + s ((l + 7) % 8)
      = s 0 + s 1 + s 2 + s 3 + s 4 + s 5 + s 6 + s 7 := by
  have h : l % 8 < 8 := Nat.mod_lt _ (by decide)
  have e : ∀ k, (l + k) % 8 = (l % 8 + k) % 8 := fun k => (Nat.mod_add_mod l 8 k).symm
  simp only [e, BitVec.zero_add]
  generalize l % 8 = r at h
  match r, h with
  | 0, _ => rfl
  | 1, _ => simp only [Nat.reduceAdd, Nat.reduceMod]; ac_rfl
  | 2, _ => simp only [Nat.reduceAdd, Nat.reduceMod]; ac_rfl
  | 3, _ => simp only [Nat.reduceAdd, Nat.reduceMod]; ac_rfl
  | 4, _ => simp only [Nat.reduceAdd, Nat.reduceMod]; ac_rfl
  | 5, _ => simp only [Nat.reduceAdd, Nat.reduceMod]; ac_rfl
  | 6, _ => simp only [Nat.reduceAdd, Nat.reduceMod]; ac_rfl
  | 7, _ => simp only [Nat.reduceAdd, Nat.reduceMod]; ac_rfl
  | n + 8, h => exact absurd h (by omega)

end Cert.Proof.Word

end
-- ==== Proof.KernelIdealLane.lean ====
/-
  The pure part of one trip of the kernel's loop, at every float instance. Trip `g` handles the sixteen windows `16 g … 16 g + 15` of the
  tile, one per lane: lane `l` reads the eight projections of window `16 g + l`, which lie at `128 g + 8 l + b` of the tile's scratch, in
  the order `b = l, l + 1, …` modulo eight, and adds up the words of the bits that are set. The indices are inside the scratch, and the
  sum is the window's code.
-/
module

public import Idealize.ShloMosaic.Lib.SortFacts
public import proofs.«01_k».proof.Proof.Word
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

/-- Element `n` of the tile's scratch of projections. -/
def ix (n : ℕ) : S32768.Idx := Shape.Idx.ofFin ⟨n % 32768, Nat.mod_lt _ (by decide)⟩

/-- The lanes' numbers, as the body computes them. -/
abbrev lanes : IVec S16 32 := iota .scVector S16 32 [0] iota_S16_d0_w32_scVector

/-! ## The vectors computed before the loop -/

/-- Where lane `l` of gather 0 reads, from the group's base. -/
theorem offs0 : ∀ l : Fin 16, k0_pay12 (Shape.Idx.ofFin l) = BitVec.ofNat 32 (8 * l.val + (l.val + 0) % 8) := by decide
/-- Where lane `l` of gather 1 reads, from the group's base. -/
theorem offs1 : ∀ l : Fin 16, k0_pay15 (Shape.Idx.ofFin l) = BitVec.ofNat 32 (8 * l.val + (l.val + 1) % 8) := by decide
/-- Where lane `l` of gather 2 reads, from the group's base. -/
theorem offs2 : ∀ l : Fin 16, k0_pay18 (Shape.Idx.ofFin l) = BitVec.ofNat 32 (8 * l.val + (l.val + 2) % 8) := by decide
/-- Where lane `l` of gather 3 reads, from the group's base. -/
theorem offs3 : ∀ l : Fin 16, k0_pay21 lanes k0_pay20 8#32 (Shape.Idx.ofFin l) = BitVec.ofNat 32 (8 * l.val + (l.val + 3) % 8) := by decide
/-- Where lane `l` of gather 4 reads, from the group's base. -/
theorem offs4 : ∀ l : Fin 16, k0_pay24 lanes (Shape.Idx.ofFin l) = BitVec.ofNat 32 (8 * l.val + (l.val + 4) % 8) := by decide
/-- Where lane `l` of gather 5 reads, from the group's base. -/
theorem offs5 : ∀ l : Fin 16, k0_pay27 lanes (Shape.Idx.ofFin l) = BitVec.ofNat 32 (8 * l.val + (l.val + 5) % 8) := by decide
/-- Where lane `l` of gather 6 reads, from the group's base. -/
theorem offs6 : ∀ l : Fin 16, k0_pay30 lanes (Shape.Idx.ofFin l) = BitVec.ofNat 32 (8 * l.val + (l.val + 6) % 8) := by decide
/-- Where lane `l` of gather 7 reads, from the group's base. -/
theorem offs7 : ∀ l : Fin 16, k0_pay33 lanes (Shape.Idx.ofFin l) = BitVec.ofNat 32 (8 * l.val + (l.val + 7) % 8) := by decide

/-- What lane `l` of gather 0 may add. -/
theorem wt0 : ∀ l : Fin 16, k0_pay13 (Shape.Idx.ofFin l) = 1#32 <<< ((l.val + 0) % 8) := by decide
/-- What lane `l` of gather 1 may add. -/
theorem wt1 : ∀ l : Fin 16, k0_pay16 (Shape.Idx.ofFin l) = 1#32 <<< ((l.val + 1) % 8) := by decide
/-- What lane `l` of gather 2 may add. -/
theorem wt2 : ∀ l : Fin 16, k0_pay19 (Shape.Idx.ofFin l) = 1#32 <<< ((l.val + 2) % 8) := by decide
/-- What lane `l` of gather 3 may add. -/
theorem wt3 : ∀ l : Fin 16, k0_pay22 k0_pay20 (Shape.Idx.ofFin l) = 1#32 <<< ((l.val + 3) % 8) := by decide
/-- What lane `l` of gather 4 may add. -/
theorem wt4 : ∀ l : Fin 16, k0_pay25 lanes (Shape.Idx.ofFin l) = 1#32 <<< ((l.val + 4) % 8) := by decide
/-- What lane `l` of gather 5 may add. -/
theorem wt5 : ∀ l : Fin 16, k0_pay28 lanes (Shape.Idx.ofFin l) = 1#32 <<< ((l.val + 5) % 8) := by decide
/-- What lane `l` of gather 6 may add. -/
theorem wt6 : ∀ l : Fin 16, k0_pay31 lanes (Shape.Idx.ofFin l) = 1#32 <<< ((l.val + 6) % 8) := by decide
/-- What lane `l` of gather 7 may add. -/
theorem wt7 : ∀ l : Fin 16, k0_pay34 lanes (Shape.Idx.ofFin l) = 1#32 <<< ((l.val + 7) % 8) := by decide

/-- A vector known at each of the sixteen lanes is known at every index. -/
theorem at_lane (v : IVec S16 32) (c : ℕ → BitVec 32) (h : ∀ l : Fin 16, v (Shape.Idx.ofFin l) = c l.val) (x : S16.Idx) : v x = c (x 0).val :=
  (congrArg v (Shape.Idx.eq_ofFin x)).trans (h (x 0))

/-! ## The indices of a trip -/

/-- The word of the first projection of trip `g`. -/
theorem base_toNat (g : Fin k0_t1_loop.trips) : (Scalar.muli (Scf.iv 0#32 1#32 g.val) 128#32).toNat = 128 * g.val := by
  have hg : g.val < 256 := Nat.lt_of_lt_of_le g.isLt k0_t1_abs.2.1
  simp only [Scalar.muli, IntOp.muli, Scf.iv, BitVec.toNat_mul, BitVec.toNat_add, BitVec.toNat_ofNat]
  omega

/-- Lane `l`'s index for its `k`-th read: `128 g + 8 l + (l + k) mod 8`. -/
theorem index_toNat (g : Fin k0_t1_loop.trips) (offs : IVec S16 32) (k : ℕ)
    (ho : ∀ l : Fin 16, offs (Shape.Idx.ofFin l) = BitVec.ofNat 32 (8 * l.val + (l.val + k) % 8)) (x : S16.Idx) :
    (addi (broadcast S16 (Scalar.muli (Scf.iv 0#32 1#32 g.val) 128#32)) offs x).toNat = 128 * g.val + 8 * (x 0).val + ((x 0).val + k) % 8 := by
  have hg : g.val < 256 := Nat.lt_of_lt_of_le g.isLt k0_t1_abs.2.1
  have hx : (x 0).val < 16 := (x 0).isLt
  rw [show addi (broadcast S16 (Scalar.muli (Scf.iv 0#32 1#32 g.val) 128#32)) offs x
      = Scalar.muli (Scf.iv 0#32 1#32 g.val) 128#32 + offs x from rfl, BitVec.toNat_add, base_toNat,
    at_lane offs (fun l => BitVec.ofNat 32 (8 * l + (l + k) % 8)) ho x, BitVec.toNat_ofNat]
  omega

/-- The index is inside the scratch. -/
theorem index_lt (g : Fin k0_t1_loop.trips) (offs : IVec S16 32) (k : ℕ)
    (ho : ∀ l : Fin 16, offs (Shape.Idx.ofFin l) = BitVec.ofNat 32 (8 * l.val + (l.val + k) % 8)) :
    ∀ a x, ((![addi (broadcast S16 (Scalar.muli (Scf.iv 0#32 1#32 g.val) 128#32)) offs] : Fin 1 → IVec S16 32) a x).toNat < S32768.size a := by
  intro a x
  have hg : g.val < 256 := Nat.lt_of_lt_of_le g.isLt k0_t1_abs.2.1
  have hx : (x 0).val < 16 := (x 0).isLt
  obtain rfl : a = 0 := Subsingleton.elim _ _
  show (addi (broadcast S16 (Scalar.muli (Scf.iv 0#32 1#32 g.val) 128#32)) offs x).toNat < 32768
  rw [index_toNat g offs k ho x]
  omega

variable {F : FTy → Type} [FloatOps F]

/-- What an indexed load of the scratch reads on lane `l`. -/
theorem load_at (f : Vec F S32768 .f32) (g : Fin k0_t1_loop.trips) (offs : IVec S16 32) (k : ℕ)
    (ho : ∀ l : Fin 16, offs (Shape.Idx.ofFin l) = BitVec.ofNat 32 (8 * l.val + (l.val + k) % 8))
    (h : ∀ a x, ((![addi (broadcast S16 (Scalar.muli (Scf.iv 0#32 1#32 g.val) 128#32)) offs] : Fin 1 → IVec S16 32) a x).toNat < S32768.size a) (x : S16.Idx) :
    loadIdx f ![addi (broadcast S16 (Scalar.muli (Scf.iv 0#32 1#32 g.val) 128#32)) offs] h x
      = f (ix (8 * (16 * g.val + (x 0).val) + ((x 0).val + k) % 8)) := by
  have hg : g.val < 256 := Nat.lt_of_lt_of_le g.isLt k0_t1_abs.2.1
  have hx : (x 0).val < 16 := (x 0).isLt
  unfold loadIdx
  congr 1
  funext a
  obtain rfl : a = 0 := Subsingleton.elim _ _
  apply Fin.ext
  show (addi (broadcast S16 (Scalar.muli (Scf.iv 0#32 1#32 g.val) 128#32)) offs x).toNat = (8 * (16 * g.val + (x 0).val) + ((x 0).val + k) % 8) % 32768
  rw [index_toNat g offs k ho x]
  omega

/-! ## The word of a lane -/

/-- The eight words a lane adds up are, in the lane's order, the words of the eight projections it read; the sum is the code of the window
    they are the projections of. -/
theorem lane_word (y : ℕ → F .f32) (v0 v1 v2 v3 v4 v5 v6 v7 : Vec F S16 .f32) (x : S16.Idx)
    (h0 : v0 x = y (((x 0).val + 0) % 8)) (h1 : v1 x = y (((x 0).val + 1) % 8)) (h2 : v2 x = y (((x 0).val + 2) % 8))
    (h3 : v3 x = y (((x 0).val + 3) % 8)) (h4 : v4 x = y (((x 0).val + 4) % 8)) (h5 : v5 x = y (((x 0).val + 5) % 8))
    (h6 : v6 x = y (((x 0).val + 6) % 8)) (h7 : v7 x = y (((x 0).val + 7) % 8)) :
    k0_pay2 (k0_pay31 lanes) (k0_pay34 lanes) k0_pay35
        (k0_pay9 k0_pay13 k0_pay16 k0_pay19 (k0_pay22 k0_pay20) (k0_pay25 lanes) (k0_pay28 lanes) k0_pay35 v0 v1 v2 v3 v4 v5) v6 v7 x
      = Word.code y := by
  refine Eq.trans ?_ (Word.sum_rotate (fun b => Word.bit (y b) b) (x 0).val)
  have w0 := at_lane _ (fun l => 1#32 <<< ((l + 0) % 8)) wt0 x
  have w1 := at_lane _ (fun l => 1#32 <<< ((l + 1) % 8)) wt1 x
  have w2 := at_lane _ (fun l => 1#32 <<< ((l + 2) % 8)) wt2 x
  have w3 := at_lane _ (fun l => 1#32 <<< ((l + 3) % 8)) wt3 x
  have w4 := at_lane _ (fun l => 1#32 <<< ((l + 4) % 8)) wt4 x
  have w5 := at_lane _ (fun l => 1#32 <<< ((l + 5) % 8)) wt5 x
  have w6 := at_lane _ (fun l => 1#32 <<< ((l + 6) % 8)) wt6 x
  have w7 := at_lane _ (fun l => 1#32 <<< ((l + 7) % 8)) wt7 x
  dsimp only at w0 w1 w2 w3 w4 w5 w6 w7
  unfold Word.bit
  rw [← h0, ← h1, ← h2, ← h3, ← h4, ← h5, ← h6, ← h7, ← w0, ← w1, ← w2, ← w3, ← w4, ← w5, ← w6, ← w7]
  rfl

end Cert.Proof.KernelIdeal

end
-- ==== Proof.KernelIdealRun.lean ====
/-
  The kernel's run, at every float instance: a vector-subcore kernel on two SparseCores of sixteen subcores. Subcore `s` of SparseCore `c`
  is worker `w = 2 s + c`: it fetches the 32768 projections from `32768 w` on (4096 windows of eight), computes the windows' codes sixteen
  at a time, and writes the 4096 codes out from `4096 w` on. @main flattens its first argument before the call and gives the codes their
  two axes after it. Every weakly fair execution ends with the two arguments unchanged, every semaphore counter at zero, and the result
  holding, for each window, its code.

  The call hands SparseCore `c` the pieces of its sixteen workers, each worker the piece it reads and the piece it writes; the pieces of
  the 32 workers make up the two arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.KernelIdealLane

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The launch: the program as the launch theorem reads it -/

/-- The labels of the program. -/
abbrev ΛP : Labels := Pipeline.Sig Λ₀ (Fin 0) fun p => (pcfgs (F := F) p).Adm
/-- The SparseCore call. -/
abbrev K : SparseCore.Cfg τ sig (ΛP (F := F)) 1 := sc (F := F)
/-- The table of bodies. -/
abbrev D [FloatOps F] : Defs nD τ sig (Elt F) (ΛP (F := F)) := Pipeline.defs pcfgs defs₀
/-- No loop carries a variant of its own. -/
abbrev 𝒱₀ : Variants := Variants.none
/-- The variants with those of the launch. -/
abbrev 𝒱 : Variants := 𝒱₀.lift
/-- The variant at the launch. -/
abbrev v₀ : 𝒱.V := Sum.inl none

/-- The call runs on two SparseCores. -/
theorem nCore_zero : (K (F := F)).nCore 0 = 2 := rfl
/-- It runs on sixteen subcores of each. -/
theorem nSub_zero : (K (F := F)).nSub 0 = 16 := rfl

/-- The side conditions of the call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the handshakes. -/
abbrev UH : Type := URounds (GSem nD τ sig) ℕ
/-- The ghost state: the handshakes and the counters. -/
abbrev UU : Type := UH × Counters

local notation "𝕄" => MT nD τ sig (HIx 1) (Elt F) ℕ UU ℕ

/-- The handshakes within it. -/
abbrev EH : Emb UH (MT nD τ sig (HIx 1) (Elt F) ℕ UU ℕ) := embL

/-! ## The buffers, the workers' pieces and the values -/

variable (m : (ℓ : Loc nD τ sig) → Buf (Elt F) ℓ) (ρ : Dev nD → PrngReg)

/-- The two arguments, the flat projections, the flat codes and the result, as locations of device `d`. -/
abbrev aLoc (d : Dev nD) : Loc nD τ sig := (SparseCore.T d).loc main_arg0
/-- Where the second argument lies. -/
abbrev eLoc (d : Dev nD) : Loc nD τ sig := (SparseCore.T d).loc main_arg1
/-- Where the flat projections lie. -/
abbrev xLoc (d : Dev nD) : Loc nD τ sig := (SparseCore.T d).loc main_v0
/-- Where the flat codes lie. -/
abbrev oLoc (d : Dev nD) : Loc nD τ sig := (SparseCore.T d).loc main_v1
/-- Where the result lies. -/
abbrev rLoc (d : Dev nD) : Loc nD τ sig := (SparseCore.T d).loc main_v2

local notation "xV" => (Memref.whole Cert.KernelIdeal.main_v0_scv : Memref Cert.KernelIdeal.sig Kind.scVector Space.hbm Cert.KernelIdeal.S1048576 EltTy.f32)
local notation "oV" => (Memref.whole Cert.KernelIdeal.main_v1_scv : Memref Cert.KernelIdeal.sig Kind.scVector Space.hbm Cert.KernelIdeal.S131072 EltTy.i32)
local notation "sX" => (Memref.whole Cert.KernelIdeal.cc0_scratch0 : Memref Cert.KernelIdeal.sig Kind.scVector Space.vmem Cert.KernelIdeal.S32768 EltTy.f32)
local notation "sO" => (Memref.whole Cert.KernelIdeal.cc0_scratch1 : Memref Cert.KernelIdeal.sig Kind.scVector Space.vmem Cert.KernelIdeal.S4096 EltTy.i32)

/-- The flat projections fall into 32 equal parts. -/
theorem hdivX : 32 ∣ S1048576.size 0 := ⟨32768, rfl⟩
/-- So do the flat codes. -/
theorem hdivO : 32 ∣ S131072.size 0 := ⟨4096, rfl⟩
/-- Worker `w`'s piece of the projections, and of the codes. -/
abbrev xPart (w : Fin 32) : Rect S1048576 := Rect.part (s := S1048576) (a₀ := 0) hdivX w
/-- Worker `w`'s piece of the codes. -/
abbrev oPart (w : Fin 32) : Rect S131072 := Rect.part (s := S131072) (a₀ := 0) hdivO w
/-- The elements of a worker's piece of the projections. -/
abbrev xSet (w : Fin 32) : Finset S1048576.Idx := ((xV).view.slice (xPart w)).set
/-- The elements of a worker's piece of the codes. -/
abbrev oSet (w : Fin 32) : Finset S131072.Idx := ((oV).view.slice (oPart w)).set

/-- The worker on subcore `s` of SparseCore `c`. -/
abbrev wid (c : Fin 2) (s : Fin 16) : Fin 32 := ⟨c.val + 2 * s.val, by omega⟩

/-- Element `n` of the flat projections. -/
def ixG (n : ℕ) : S1048576.Idx := Shape.Idx.ofFin ⟨n % 1048576, Nat.mod_lt _ (by decide)⟩

/-- The flat projections: the first argument's elements in row-major order. -/
def flat (d : Dev nD) : Buf (Elt F) (xLoc d) :=
  fun i => shapeCast S1048576 (m (aLoc d)) shapeCasts_S32x4096x2x4_S1048576 i

variable [FloatOps F]

/-- The flat codes of flat projections: element `t` the code of the window at `8 t`. -/
def codes (f : S1048576.Idx → F .f32) : S131072.Idx → BitVec 32 :=
  fun j => Word.code fun b => f (ixG (8 * (j 0).val + b))

/-- The flat codes the call leaves. -/
abbrev outFlat (d : Dev nD) : Buf (Elt F) (oLoc d) := codes (flat m d)

/-- The result: the codes with the two axes of the windows. -/
def out (d : Dev nD) : Buf (Elt F) (rLoc d) :=
  fun i => shapeCast S32x4096 (outFlat m d) shapeCasts_S131072_S32x4096 i

/-! ## What the handshakes carry -/

/-- The flat projections, whole. -/
abbrev xPts (d : Dev nD) : sProp 𝕄 := xLoc d ↦{fullShare} flat m d
/-- The flat codes at contents `f`, whole. -/
abbrev oPts (d : Dev nD) (f : Buf (Elt F) (oLoc d)) : sProp 𝕄 := oLoc d ↦{fullShare} f
/-- A worker's piece of the flat projections. -/
abbrev xPc (d : Dev nD) (w : Fin 32) : sProp 𝕄 := xLoc d ↦[xSet w]{fullShare} flat m d
/-- A worker's piece of the flat codes at contents `f`. -/
abbrev oPc (d : Dev nD) (w : Fin 32) (f : Buf (Elt F) (oLoc d)) : sProp 𝕄 := oLoc d ↦[oSet w]{fullShare} f

/-- A worker's two pieces: the one it reads, and the one it writes at contents `f`. -/
abbrev pcs (d : Dev nD) (f : Buf (Elt F) (oLoc d)) (c : Fin 2) (s : Fin 16) : sProp 𝕄 := iprop(xPc m d (wid c s) ∗ oPc d (wid c s) f)

/-- The call takes both arrays' pieces, each SparseCore those of its sixteen workers, and brings them back with the codes written. -/
def P : (K (F := F)).Pay (nD := nD) (Val := Elt F) (Name := ℕ) (U := UU) where
  st := fun q d c => match q with
    | 0 => bigSep Finset.univ fun s : Fin ((K (F := F)).nSub 0) => pcs m d (m (oLoc d)) (Fin.cast nCore_zero c) (Fin.cast nSub_zero s)
  dn := fun q d c => match q with
    | 0 => bigSep Finset.univ fun s : Fin ((K (F := F)).nSub 0) => pcs m d (outFlat m d) (Fin.cast nCore_zero c) (Fin.cast nSub_zero s)
  go := fun q d c s => match q with | 0 => pcs m d (m (oLoc d)) (Fin.cast nCore_zero c) (Fin.cast nSub_zero s)
  td := fun q d c s => match q with | 0 => pcs m d (outFlat m d) (Fin.cast nCore_zero c) (Fin.cast nSub_zero s)
  x := fun _ _ => iprop(emp)

/-- What the handshakes carry can be kept in an invariant. -/
instance P_storable : (P (F := F) m).IsStorable where
  st q d c := match q with
    | 0 => (inferInstance : BI.Storable (upEmb : UEmb _ 𝕄)
        (bigSep Finset.univ fun s : Fin ((K (F := F)).nSub 0) => pcs m d (m (oLoc d)) (Fin.cast nCore_zero c) (Fin.cast nSub_zero s)))
  dn q d c := match q with
    | 0 => (inferInstance : BI.Storable (upEmb : UEmb _ 𝕄)
        (bigSep Finset.univ fun s : Fin ((K (F := F)).nSub 0) => pcs m d (outFlat m d) (Fin.cast nCore_zero c) (Fin.cast nSub_zero s)))
  go q d c s := match q with
    | 0 => (inferInstance : BI.Storable (upEmb : UEmb _ 𝕄) (pcs m d (m (oLoc d)) (Fin.cast nCore_zero c) (Fin.cast nSub_zero s)))
  td q d c s := match q with
    | 0 => (inferInstance : BI.Storable (upEmb : UEmb _ 𝕄) (pcs m d (outFlat m d) (Fin.cast nCore_zero c) (Fin.cast nSub_zero s)))

/-! ## The task -/

section Tile

variable (d : Dev nD) (L : grid0.Coords)

/-- The SparseCore at a pair of coordinates. -/
abbrev cV (L : grid0.Coords) : Fin τ.nSC := (L 0).castLE hcore0
/-- The subcore at a pair of coordinates. -/
abbrev jV (L : grid0.Coords) : Fin τ.nSub := (L 1).castLE hsub0
omit [FloatOps F] in
/-- The first coordinate has two values. -/
theorem bound_zero : grid0.bound 0 = 2 := rfl
omit [FloatOps F] in
/-- The second has sixteen. -/
theorem bound_one : grid0.bound 1 = 16 := rfl
/-- The worker the task is. -/
abbrev wL (L : grid0.Coords) : Fin 32 := wid (Fin.cast bound_zero (L 0)) (Fin.cast bound_one (L 1))

/-- The task's pieces as the body addresses them. -/
abbrev xRect (L : grid0.Coords) : Rect S1048576 := Rect.unit (s := S1048576) (k0_off1 L) S32768.size (k0_off1_inb L)
/-- The block that a worker writes out. -/
abbrev oRect (L : grid0.Coords) : Rect S131072 := Rect.unit (s := S131072) (k0_off3 L) S4096.size (k0_off3_inb L)
/-- The source of the copy in. -/
abbrev xK (L : grid0.Coords) : Memref sig .scVector .hbm S32768 .f32 := (xV).slice (xRect L) (fun _ => rfl)
/-- The destination of the copy out. -/
abbrev oK (L : grid0.Coords) : Memref sig .scVector .hbm S4096 .i32 := (oV).slice (oRect L) (fun _ => rfl)

omit [FloatOps F] in
/-- The block copied in is the worker's piece. -/
theorem xRect_eq : xRect L = xPart (wL L) := by
  unfold xRect xPart Rect.part Rect.block
  congr 1 <;> funext a
  · rw [k0_off1_eq]
    match a with
    | 0 => simp only [Shape.partIx, Shape.partSize, wid, wL, Fin.val_cast]; simp; omega
  · match a with
    | 0 => simp [Shape.partSize]
omit [FloatOps F] in
/-- The block copied out is the worker's piece. -/
theorem oRect_eq : oRect L = oPart (wL L) := by
  unfold oRect oPart Rect.part Rect.block
  congr 1 <;> funext a
  · rw [k0_off3_eq]
    match a with
    | 0 => simp only [Shape.partIx, Shape.partSize, wid, wL, Fin.val_cast]; simp; omega
  · match a with
    | 0 => simp [Shape.partSize]

omit [FloatOps F] in
/-- The elements of the copy in's source. -/
theorem set_xK : (xK L).view.set = xSet (wL L) := by
  show ((xV).view.slice (xRect L)).set = ((xV).view.slice (xPart (wL L))).set
  exact xRect_eq L ▸ rfl
omit [FloatOps F] in
/-- The elements of the copy out's destination. -/
theorem set_oK : (oK L).view.set = oSet (wL L) := by
  show ((oV).view.slice (oRect L)).set = ((oV).view.slice (oPart (wL L))).set
  exact oRect_eq L ▸ rfl

omit [FloatOps F] in
/-- Holding the copy in's source is holding the piece. -/
theorem pts_xK (f : Buf (Elt F) (xLoc d)) :
    ((xK L).view.loc (V d (cV L) (jV L)) ↦[(xK L).view.set]{fullShare} f : sProp 𝕄) = xLoc d ↦[xSet (wL L)]{fullShare} f := by
  rw [set_xK]
omit [FloatOps F] in
/-- Holding the copy out's destination is holding the piece. -/
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
omit [FloatOps F] in
/-- Holding the first scratch buffer whole. -/
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
omit [FloatOps F] in
/-- Holding the second scratch buffer whole. -/
theorem pts_sO (f : Buf (Elt F) ((V d (cV L) (jV L)).loc cc0_scratch1)) :
    ((sO).view.loc (V d (cV L) (jV L)) ↦{fullShare} f : sProp 𝕄) = (V d (cV L) (jV L)).loc cc0_scratch1 ↦{fullShare} f := rfl

/-- The two DMA cells the body names: the fetch's and the write-out's. -/
abbrev cAcell (d : Dev nD) (c : Fin τ.nSC) (i : Fin τ.nSub) : GSem nD τ sig := (V d c i, .dma cc0_scoped0.sem)
/-- The second copy's semaphore. -/
abbrev cBcell (d : Dev nD) (c : Fin τ.nSC) (i : Fin τ.nSub) : GSem nD τ sig := (V d c i, .dma cc0_scoped1.sem)

omit [FloatOps F] in
/-- A subcore's semaphores at zero are those of the two copies. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The subcore's own buffers are its two scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The projections of the task's windows. -/
def tileX : Vec F S32768 .f32 := fun j => flat m d (ixG (32768 * (wL L).val + (j 0).val))

/-- The codes written so far: those of the first `16 k` windows of the tile. -/
def Done (k : ℕ) (f : S4096.Idx → BitVec 32) : Prop :=
  ∀ j : S4096.Idx, (j 0).val < 16 * k → f j = Word.code fun b => tileX m d L (ix (8 * (j 0).val + b))

/-- Before trip `k`: the scratch of projections as fetched, the codes of the first `16 k` windows written. -/
def inv (k : ℕ) (_ : PUnit) : sProp 𝕄 :=
  iprop(((sX).view.loc (V d (cV L) (jV L)) ↦{fullShare} (tileX m d L : Buf (Elt F) ((V d (cV L) (jV L)).loc cc0_scratch0)))
    ∗ ∃ f : Buf (Elt F) ((V d (cV L) (jV L)).loc cc0_scratch1), ⌜Done m d L k f⌝ ∗ (sO).view.loc (V d (cV L) (jV L)) ↦{fullShare} f)

/-- A trip's store brings the codes of sixteen more windows. -/
theorem done_step (k : Fin k0_t1_loop.trips) (f : Buf (Elt F) ((V d (cV L) (jV L)).loc cc0_scratch1)) (hf : Done m d L k.val f)
    (w : S16.Idx → BitVec 32) (hw : ∀ x : S16.Idx, w x = Word.code fun b => tileX m d L (ix (8 * (16 * k.val + (x 0).val) + b))) :
    Done m d L (k.val + 1)
      ((sO).view.writes (Elt F) f [⟨Rect.unit (s := S4096) (k0_off2 k) S16.size (k0_off2_inb k), w⟩]) := by
  intro j hj
  have he : k0_off2 k = ![16 * k.val] := k0_off2_eq k
  by_cases h : (j 0).val < 16 * k.val
  · refine Eq.trans ?_ (hf j h)
    exact View.read_writes_cons_unit_of_not_mem (sO).view f (k0_off2_inb k) w [] j he 0 (.inl h)
  · have hx : (j 0).val - 16 * k.val < 16 := by omega
    refine (View.read_writes_cons_unit_of_mem (sO).view f (k0_off2_inb k) w [] j (Shape.Idx.ofFin ⟨(j 0).val - 16 * k.val, hx⟩) he ?_).trans ((hw _).trans ?_)
    · intro a
      obtain rfl : a = 0 := Subsingleton.elim (α := Fin 1) _ _
      show (j 0).val = 16 * k.val + ((j 0).val - 16 * k.val)
      omega
    · have e : 16 * k.val + ((j 0).val - 16 * k.val) = (j 0).val := by omega
      show (Word.code fun b => tileX m d L (ix (8 * (16 * k.val + ((j 0).val - 16 * k.val)) + b))) = _
      rw [e]

/-- One trip of the loop: it adds sixteen codes to those stored. -/
theorem trip (k : Fin k0_t1_loop.trips) :
    inv m d L k.val ⟨⟩ ⊢ wp frame (wpE (defs₀ (F := F)) 𝒱₀ (V d (cV L) (jV L)) none) Set.univ
        (k0_t1_body L xV (Memref.isWhole_whole _) oV (Memref.isWhole_whole _) sX (Memref.isWhole_whole _) sO (Memref.isWhole_whole _)
          cc0_scoped0 cc0_scoped1 k0_pay12 k0_pay13 k0_pay15 k0_pay16 k0_pay18 k0_pay19 (k0_pay21 lanes k0_pay20 8#32) (k0_pay22 k0_pay20)
          (k0_pay24 lanes) (k0_pay25 lanes) (k0_pay27 lanes) (k0_pay28 lanes) (k0_pay30 lanes) (k0_pay31 lanes) (k0_pay33 lanes) (k0_pay34 lanes)
          k0_pay35 k ⟨⟩)
        (inv m d L (k.val + 1)) := by
  unfold k0_t1_body
  simp only [k0_part1_eq_skeleton]
  unfold k0_part1_skel
  simp only [SparseCore.vectorLoadIdx]
  unfold inv
  iintro ⟨Hx, %f, %hf, Hc⟩
  have c1 : k0_chk1 (k0_pay3 k0_pay12 0#32 1#32 k) := index_lt k k0_pay12 0 offs0
  have c2 : k0_chk2 (k0_pay4 k0_pay15 0#32 1#32 k) := index_lt k k0_pay15 1 offs1
  have c3 : k0_chk3 (k0_pay5 k0_pay18 0#32 1#32 k) := index_lt k k0_pay18 2 offs2
  have c4 : k0_chk4 (k0_pay6 (k0_pay21 lanes k0_pay20 8#32) 0#32 1#32 k) := index_lt k (k0_pay21 lanes k0_pay20 8#32) 3 offs3
  have c5 : k0_chk5 (k0_pay7 (k0_pay24 lanes) 0#32 1#32 k) := index_lt k (k0_pay24 lanes) 4 offs4
  have c6 : k0_chk6 (k0_pay8 (k0_pay27 lanes) 0#32 1#32 k) := index_lt k (k0_pay27 lanes) 5 offs5
  have c7 : k0_chk7 (k0_pay10 (k0_pay30 lanes) 0#32 1#32 k) := index_lt k (k0_pay30 lanes) 6 offs6
  have c8 : k0_chk8 (k0_pay1 (k0_pay33 lanes) (Scalar.muli (Scf.iv 0#32 1#32 k) 128#32)) := index_lt k (k0_pay33 lanes) 7 offs7
  have e : (sX).view.readAt (Elt F) (LoadRect.whole S32768) (tileX m d L) = tileX m d L := Memref.readAt_whole (Elt F) cc0_scratch0 _
  sl_exec
  sl_step
  isplitl [Hx]; · iexact Hx
  iexists _
  isplitr
  swap; · iexact Hc
  ipureintro
  refine done_step m d L k f hf _ fun x => ?_
  dsimp only
  refine lane_word (fun b => tileX m d L (ix (8 * (16 * k.val + (x 0).val) + b))) _ _ _ _ _ _ _ _ x ?_ ?_ ?_ ?_ ?_ ?_ ?_ ?_
  · exact load_at (tileX m d L) k k0_pay12 0 offs0 c1 x
  · exact load_at (tileX m d L) k k0_pay15 1 offs1 c2 x
  · exact load_at (tileX m d L) k k0_pay18 2 offs2 c3 x
  · exact load_at (tileX m d L) k (k0_pay21 lanes k0_pay20 8#32) 3 offs3 c4 x
  · exact load_at (tileX m d L) k (k0_pay24 lanes) 4 offs4 c5 x
  · exact load_at (tileX m d L) k (k0_pay27 lanes) 5 offs5 c6 x
  · exact load_at (tileX m d L) k (k0_pay30 lanes) 6 offs6 c7 x
  · exact load_at (tileX m d L) k (k0_pay33 lanes) 7 offs7 c8 x

/-- The fetch leaves the task's projections in the scratch. -/
theorem fetch_eq (fs : Buf (Elt F) ((V d (cV L) (jV L)).loc cc0_scratch0)) :
    (sX).view.write (Elt F) fs ((xK L).view.read (Elt F) (flat m d)) Finset.univ = tileX m d L := by
  refine (View.write_whole_univ _ _ _).trans ?_
  funext j
  have h0 : (L 0).val < 2 := (L 0).isLt
  have h1 : (L 1).val < 16 := (L 1).isLt
  have hj : (j 0).val < 32768 := (j 0).isLt
  show flat m d ((xRect L).emb j) = flat m d (ixG (32768 * (wL L).val + (j 0).val))
  congr 1
  funext a
  obtain rfl : a = 0 := Subsingleton.elim (α := Fin 1) _ _
  apply Fin.ext
  show k0_off1 L 0 + 1 * (j 0).val = (32768 * ((L 0).val + 2 * (L 1).val) + (j 0).val) % 1048576
  rw [k0_off1_eq]
  show 65536 * (L 1).val + 32768 * (L 0).val + 1 * (j 0).val = _
  omega

/-- The loop takes 256 trips. -/
theorem trips_eq : Scf.trips k0_t1_loop.lb k0_t1_loop.ub k0_t1_loop.st = 256 := by decide

/-- What the write-out leaves in the task's piece of the codes: the codes of its windows. -/
theorem out_eq (f : Buf (Elt F) ((V d (cV L) (jV L)).loc cc0_scratch1)) (hf : Done m d L 256 f) :
    ∀ i ∈ (oK L).view.set, (oK L).view.writes (Elt F) (m (oLoc d)) [⟨Rect.whole S4096, (sO).view.read (Elt F) f⟩] i = outFlat m d i := by
  intro i hi
  obtain ⟨x, -, rfl⟩ := Finset.mem_map.mp hi
  have h0 : (L 0).val < 2 := (L 0).isLt
  have h1 : (L 1).val < 16 := (L 1).isLt
  have hx : (x 0).val < 4096 := (x 0).isLt
  have e : (oK L).view.emb x = ((oK L).view.slice (Rect.whole S4096)).emb x := congrArg (oK L).view.emb (Rect.emb_whole_apply S4096 x).symm
  rw [View.writes_cons, e]
  refine (View.write_emb_of_mem _ _ (Finset.mem_univ x)).trans ?_
  rw [← e]
  show f x = Word.code fun b => flat m d (ixG (8 * (k0_off3 L 0 + 1 * (x 0).val) + b))
  rw [hf x (by omega), k0_off3_eq]
  refine Word.code_congr fun b hb => ?_
  show flat m d (ixG (32768 * ((L 0).val + 2 * (L 1).val) + (8 * (x 0).val + b) % 32768))
    = flat m d (ixG (8 * (8192 * (L 1).val + 4096 * (L 0).val + 1 * (x 0).val) + b))
  congr 2
  omega

/-- One task: from its two pieces, its scratches and its counters at zero, it writes the codes of its windows and brings everything back. -/
theorem tile_body (hF : (K (F := F)).Facts) (O : CellTallies nD τ sig (HIx 1)) (W : Waits sig (HIx 1)) (hO : ∀ g, O g none = 0) :
    iprop(levAts (K (F := F)).L (K (F := F)).lev ∗ emp ∗ (xPc m d (wL L) ∗ oPc d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) oV (Memref.isWhole_whole _)
            sX (Memref.isWhole_whole _) sO (Memref.isWhole_whole _) cc0_scoped0 cc0_scoped1)
          fun _ => iprop((xPc m d (wL L) ∗ oPc d (wL L) (outFlat m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_body_eq_skeleton]
  unfold cc0_body_skel
  simp only [k0_part2_eq_skeleton, k0_part3_eq_skeleton]
  unfold k0_part2_skel k0_part3_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _).symm) $$ Hx
  ihave Ho' := (Entails.of_eq (pts_oK (F := F) d L _).symm) $$ Ho
  ihave Hs' := (Entails.of_eq (pts_sX (F := F) d L _).symm) $$ Hs
  ihave Hc' := (Entails.of_eq (pts_sO (F := F) d L _).symm) $$ Hc
  sl_exec (disch := exact View.amount_pos _ _ (show 0 < S32768.numel by decide))
  sl_for (inv m d L) $$ [Hs' Hc']
  case region =>
    intro k _
    exact trip m d L k
  · rw [show tile_body.sl.dma0 m d L = (xK L).view.read (Elt F) (flat m d) from rfl, fetch_eq]
    unfold inv
    isplitl [Hs']; · iexact Hs'
    iexists fc
    isplitr; · ipureintro; exact fun j hj => absurd hj (Nat.not_lt_zero _)
    iexact Hc'
  iintro %_ HI
  unfold inv
  icases HI with ⟨Hs', %f, %hf, Hc'⟩
  rw [trips_eq] at hf
  sl_exec (disch := exact View.amount_pos _ _ (show 0 < S4096.numel by decide))
  sl_step
  rw [show tile_body.sl.dma0_1 d L f = (sO).view.read (Elt F) f from rfl]
  isplitl [Hx' Ho']
  · isplitl [Hx']; · iapply (Entails.of_eq (pts_xK (F := F) d L _)); iexact Hx'
    iapply (Entails.of_eq ((pointsTo_congr (out_eq m d L f hf)).trans (pts_oK (F := F) d L _))); iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

/-! ## The obligation -/

/-- The coordinates of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- A subcore's body. -/
theorem defs₀_vector (c : Fin τ.nSC) (s : Fin τ.nSub) :
    defs₀ (F := F) (.scVector c s) 0 ()
      = SparseCore.onTile hcore0 hsub0 (fun c s => cc0_body (coordsV c s) xV (Memref.isWhole_whole _) oV (Memref.isWhole_whole _)
          sX (Memref.isWhole_whole _) sO (Memref.isWhole_whole _) cc0_scoped0 cc0_scoped1) ⟨⟩ c s := rfl

/-- Every subcore meets its part: from its two pieces to the piece of codes written. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The pieces split and join -/

omit [FloatOps F] in
/-- A piece of the projections, as a part of the array. -/
theorem xSet_eq (w : Fin 32) : xSet w = (xPart w).set := by
  show ((View.whole (main_v0_scv : Ref sig .scVector)).slice (xPart w)).set = _
  rw [View.set_slice]; exact Finset.map_refl
omit [FloatOps F] in
/-- The pieces of the projections do not overlap. -/
theorem xSet_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint hdivX h
omit [FloatOps F] in
/-- They cover the array. -/
theorem xSet_cover : (Finset.univ : Finset (Fin 32)).biUnion xSet = Finset.univ :=
  (Finset.biUnion_congr rfl fun i _ => xSet_eq i).trans (Rect.biUnion_part hdivX)
omit [FloatOps F] in
/-- A piece of the codes, as a part of the array. -/
theorem oSet_eq (w : Fin 32) : oSet w = (oPart w).set := by
  show ((View.whole (main_v1_scv : Ref sig .scVector)).slice (oPart w)).set = _
  rw [View.set_slice]; exact Finset.map_refl
omit [FloatOps F] in
/-- The pieces of the codes do not overlap. -/
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
omit [FloatOps F] in
/-- They cover the array. -/
theorem oSet_cover : (Finset.univ : Finset (Fin 32)).biUnion oSet = Finset.univ :=
  (Finset.biUnion_congr rfl fun i _ => oSet_eq i).trans (Rect.biUnion_part hdivO)

omit [FloatOps F] in
/-- The flat projections are their 32 pieces. -/
theorem xPts_parts (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xSet_disjoint, xSet_cover]
omit [FloatOps F] in
/-- The flat codes are their 32 pieces. -/
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]

/-- The workers, counted by SparseCore and subcore. -/
def worker : Fin 2 × Fin 16 ≃ Fin 32 := (Equiv.prodComm (Fin 2) (Fin 16)).trans finProdFinEquiv

/-- The pieces of all workers are the two arrays. -/
theorem pcs_all (d : Dev nD) (f : Buf (Elt F) (oLoc d)) :
    (bigSep Finset.univ fun c : Fin 2 => bigSep Finset.univ fun s : Fin 16 => pcs m d f c s : sProp 𝕄) = iprop(xPts m d ∗ oPts d f) := by
  rw [← BI.bigSep_univ_prod (fun p : Fin 2 × Fin 16 => pcs m d f p.1 p.2)]
  unfold xPts oPts
  rw [xPts_parts, oPts_parts, ← bigSep_sep', BI.bigSep_univ_equiv worker]
  exact bigSep_congr fun _ _ => rfl

omit [FloatOps F] in
/-- A product over the 32 workers is one over SparseCores and subcores. -/
theorem bigSep_calls (Φ : Fin 2 → Fin 16 → sProp 𝕄) :
    (bigSep Finset.univ fun c : Fin ((K (F := F)).nCore 0) => bigSep Finset.univ fun s : Fin ((K (F := F)).nSub 0) =>
        Φ (Fin.cast nCore_zero c) (Fin.cast nSub_zero s))
      = bigSep Finset.univ fun c : Fin 2 => bigSep Finset.univ fun s : Fin 16 => Φ c s := rfl

/-- A SparseCore's pieces are already its tasks'. -/
theorem vecSplit : (K (F := F)).VecSplit' (P m) 0 := by
  intro d c
  show (bigSep Finset.univ fun s : Fin ((K (F := F)).nSub 0) => pcs m d (m (oLoc d)) (Fin.cast nCore_zero c) (Fin.cast nSub_zero s))
    ⊢ |={Set.univ}=> iprop(
      (bigSep Finset.univ fun s : Fin ((K (F := F)).nSub 0) => pcs m d (m (oLoc d)) (Fin.cast nCore_zero c) (Fin.cast nSub_zero s))
      ∗ ((bigSep Finset.univ fun s : Fin ((K (F := F)).nSub 0) => pcs m d (outFlat m d) (Fin.cast nCore_zero c) (Fin.cast nSub_zero s))
          -∗ bigSep Finset.univ fun s : Fin ((K (F := F)).nSub 0) => pcs m d (outFlat m d) (Fin.cast nCore_zero c) (Fin.cast nSub_zero s)))
  iintro H; imodintro
  isplitl [H]; · iexact H
  iintro H; iexact H

/-! ## The launch element: the handshakes' rounds -/

/-- The ghost state at the launch. -/
def u₀ : UU := (initOf (K (F := F)).hsCells (K (F := F)).hsToks, 1)

omit [FloatOps F] in
/-- A product of nothing is nothing. -/
theorem bigSep_emp' {I : Type} (s : Finset I) : (bigSep s fun _ => iprop(emp)) = (iprop(emp) : sProp 𝕄) := bigSep_emp_const s

/-- The ghost state at the launch splits as the launch asks. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The first argument, named on the device. -/
abbrev a' : DevRef τ sig := Proc.tc.devRef main_arg0
/-- The second argument. -/
abbrev e' : DevRef τ sig := Proc.tc.devRef main_arg1
/-- The flat projections. -/
abbrev x' : DevRef τ sig := Proc.tc.devRef main_v0
/-- The flat codes. -/
abbrev o' : DevRef τ sig := Proc.tc.devRef main_v1
/-- The result. -/
abbrev r' : DevRef τ sig := Proc.tc.devRef main_v2

/-- @main's two operations: the flattening before the call, the two axes after it. -/
abbrev opIn : HloOp τ sig (Elt F) := StableHlo.reshape main_arg0 main_v0 (rfl : (.f32 : EltTy) = .f32) shapeCasts_S32x4096x2x4_S1048576
/-- The reshape of the codes to the result. -/
abbrev opOut : HloOp τ sig (Elt F) := StableHlo.reshape main_v1 main_v2 (rfl : (.i32 : EltTy) = .i32) shapeCasts_S131072_S32x4096

/-- The five arrays of the program. -/
abbrev S5 : Finset (DevRef τ sig) := {a', e', x', o', r'}

omit [FloatOps F] in
/-- Holding the five arrays is holding each. -/
theorem held_S5 (d : Dev nD) (W : Valuation τ sig (Elt F)) :
    (held (T d) S5 W : sProp 𝕄)
      = iprop((aLoc d ↦{fullShare} W a') ∗ (eLoc d ↦{fullShare} W e') ∗ (xLoc d ↦{fullShare} W x')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
/-- The arrays of the launch are the five. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (eLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The five arrays' contents: at the launch, before the call, and after it. -/
def V0 (d : Dev nD) : Valuation τ sig (Elt F) := fun b => m (d, b)
/-- The contents after the reshape of the argument. -/
def V1 (d : Dev nD) : Valuation τ sig (Elt F) := (opIn (F := F)).result (V0 m d)
/-- The contents after the call. -/
def V2 (d : Dev nD) : Valuation τ sig (Elt F) := Function.update (V1 m d) o' (outFlat m d)

omit [FloatOps F] in
/-- The arrays at the launch hold the initial contents. -/
theorem unscoped_held (d : Dev nD) : (unscopedBufs d (fun b => m ((SparseCore.T d).loc b)) : sProp 𝕄) = held (T d) S5 (V0 m d) := by
  rw [unscopedBufs_eq, held_S5]; rfl

omit [FloatOps F] in
/-- The first reshape changes the flat projections alone. -/
theorem V1_of_ne (d : Dev nD) (b : DevRef τ sig) (hb : b ∉ ({x'} : Finset (DevRef τ sig))) : V1 m d b = m (d, b) :=
  (opIn (F := F)).result_of_not_mem _ hb
omit [FloatOps F] in
/-- It makes them the flat projections. -/
theorem V1_x (d : Dev nD) : V1 m d x' = flat m d := StableHlo.reshape_result _ _ _ _ _ _ _
/-- The call changes the flat codes alone. -/
theorem V2_of_ne (d : Dev nD) (b : DevRef τ sig) (hb : b ≠ o') : V2 m d b = V1 m d b := Function.update_of_ne hb _ _
/-- It makes them the codes. -/
theorem V2_o (d : Dev nD) : V2 m d o' = outFlat m d := Function.update_self _ _ _

/-- The five arrays before the call. -/
theorem held_V1 (d : Dev nD) :
    (held (T d) S5 ((opIn (F := F)).result (V0 m d)) : sProp 𝕄)
      = iprop((aLoc d ↦{fullShare} m (aLoc d)) ∗ (eLoc d ↦{fullShare} m (eLoc d)) ∗ xPts m d
          ∗ oPts d (m (oLoc d)) ∗ rLoc d ↦{fullShare} V1 m d r') := by
  show held (SparseCore.T d) S5 (V1 m d) = _
  rw [held_S5, V1_x, V1_of_ne m d a' (by decide), V1_of_ne m d e' (by decide), V1_of_ne m d o' (by decide)]
/-- The five arrays at the end. -/
theorem held_V3 (d : Dev nD) :
    (held (T d) S5 ((opOut (F := F)).result (V2 m d)) : sProp 𝕄)
      = iprop((aLoc d ↦{fullShare} m (aLoc d)) ∗ (eLoc d ↦{fullShare} m (eLoc d)) ∗ (xLoc d ↦{fullShare} (opOut (F := F)).result (V2 m d) x')
          ∗ (oLoc d ↦{fullShare} (opOut (F := F)).result (V2 m d) o') ∗ rLoc d ↦{fullShare} out m d) := by
  rw [held_S5, (opOut (F := F)).result_of_not_mem (V2 m d) (b := a') (show a' ∉ ({r'} : Finset (DevRef τ sig)) by decide),
    (opOut (F := F)).result_of_not_mem (V2 m d) (b := e') (show e' ∉ ({r'} : Finset (DevRef τ sig)) by decide),
    V2_of_ne m d a' (by decide), V2_of_ne m d e' (by decide), V1_of_ne m d a' (by decide), V1_of_ne m d e' (by decide),
    show (opOut (F := F)).result (V2 m d) r' = out m d from (StableHlo.reshape_result _ _ _ _ _ _ _).trans (by rw [V2_o]; rfl)]

/-- What the call is started with: the two flat arrays. -/
theorem st0_eq (d : Dev nD) : (bigSep Finset.univ fun c : Fin ((K (F := F)).nCore 0) => (P m).st 0 d c) = iprop(xPts m d ∗ oPts d (m (oLoc d))) :=
  (bigSep_calls (F := F) (fun c s => pcs m d (m (oLoc d)) c s)).trans (pcs_all m d _)
/-- What it gives back: the same with the codes written. -/
theorem dn0_eq (d : Dev nD) : (bigSep Finset.univ fun c : Fin ((K (F := F)).nCore 0) => (P m).dn 0 d c) = iprop(xPts m d ∗ oPts d (outFlat m d)) :=
  (bigSep_calls (F := F) (fun c s => pcs m d (outFlat m d) c s)).trans (pcs_all m d _)

omit [FloatOps F] in
/-- The first reshape touches the five arrays alone. -/
theorem hIn : (opIn (F := F)).bufs ⊆ S5 := show ({a', x'} : Finset (DevRef τ sig)) ⊆ S5 by decide
omit [FloatOps F] in
/-- The last reshape touches the five arrays alone. -/
theorem hOut : (opOut (F := F)).bufs ⊆ S5 := show ({o', r'} : Finset (DevRef τ sig)) ⊆ S5 by decide

/-- What @main leaves the claims: the two arguments at their launch contents, the result at the codes. -/
abbrev FIN (d : Dev nD) : sProp 𝕄 :=
  iprop((aLoc d ↦{fullShare} m (aLoc d)) ∗ (eLoc d ↦{fullShare} m (eLoc d)) ∗ rLoc d ↦{fullShare} out m d)

/-- @main on device `d`'s TensorCore: the flattening, the call, the two axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, He, Hx, Ho, Hr⟩
  iapply ((K (F := F)).wp_run (D (F := F)) 𝒱 (EH := EH) (P := P m) κ d 0) $$ [Hst Hx Ho Hb Ha He Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S5) hOut (V := V2 m d)) $$ [Hb Hx Ha He Ho Hr]
  · isplitl [Hb]; · iexact Hb
    rw [held_S5, V2_o, V2_of_ne m d a' (by decide), V2_of_ne m d e' (by decide), V2_of_ne m d x' (by decide), V2_of_ne m d r' (by decide),
      V1_x, V1_of_ne m d a' (by decide), V1_of_ne m d e' (by decide)]
    isplitl [Ha]; · iexact Ha
    isplitl [He]; · iexact He
    isplitl [Hx]; · iexact Hx
    isplitl [Ho]; · iexact Ho
    iexact Hr
  iintro ⟨Hb, Hheld⟩
  ihave Hh := (Entails.of_eq (held_V3 (F := F) m d)) $$ Hheld
  icases Hh with ⟨Ha, He, -, -, Hr⟩
  rw [wp_ret]; imodintro; imodintro
  isplitl [Hst]; · iexact Hst
  isplitr [Hb Hts]
  · isplitl [Ha]; · iexact Ha
    isplitl [He]; · iexact He
    iexact Hr
  isplitl [Hb] <;> iassumption

/-- What the claims read of device `d`'s final state: the arguments at their launch contents, the result at the codes. -/
def fq (d : Dev nD) (s' : Phys nD τ sig (Elt F)) : Prop :=
  s'.mem.mem (rLoc d) = out m d ∧ s'.mem.mem (aLoc d) = m (aLoc d) ∧ s'.mem.mem (eLoc d) = m (eLoc d)

/-- What the program ends with says what memory holds. -/
theorem hfin (d : Dev nD) (s' : Phys nD τ sig (Elt F)) : iprop(FIN m d ∗ SI s') ⊢ (⌜fq m d s'⌝ : sProp 𝕄) := by
  iintro ⟨⟨Ha, He, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := eLoc d) (I := Finset.univ) (q := fullShare) (f := m (eLoc d)))) $$ [HSI He]
  · isplitl [HSI] <;> iassumption
  icases H with ⟨%he, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => ha i (Finset.mem_univ i), funext fun i => he i (Finset.mem_univ i)⟩

/-! ## The program's run -/

/-- The end: the result at the codes, the two arguments unchanged, every counter at zero. -/
def QC : PUnit × MemSt nD τ sig (Elt F) → Prop := fun r =>
  (∀ c : Dev nD, r.2.mem (rLoc c) = out m c ∧ r.2.mem (aLoc c) = m (aLoc c) ∧ r.2.mem (eLoc c) = m (eLoc c)) ∧ r.2.sem = fun _ => 0

/-- Every weakly fair execution ends with the result at the codes of the windows, the two arguments unchanged and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.ReferenceRun.lean ====
/-
  The reference's run at the ideal instance: it ends with its two arguments unchanged and its result holding `refOut` of them, the
  composition of its operations: the negated distances of every window to every codebook row, and for each window the first row at
  which they are greatest.
-/
module

public import proofs.«01_k».proof.Defs
public import proofs.«01_k».proof.Proof.Gen.ReferenceIdeal
public import Idealize.ShloMosaic.Lib.Claim
public import Idealize.ShloMosaic.Lib.StableHlo.RunHlo

@[expose] public section

noncomputable section

namespace Cert.Proof.Reference

open Cert.ReferenceIdeal Cert.ReferenceIdeal.Gen
open Idealize.ShloMosaic Idealize.SL.Sem

/-- The windows as rows. -/
def rows (x : FVec Ideal S32x4096x2x4 .f32) : FVec Ideal S131072x8 .f32 :=
  fun i => shapeCast S131072x8 x shapeCasts_S32x4096x2x4_S131072x8 i

/-- The codebook's rows as columns. -/
def cols (e : FVec Ideal S256x8 .f32) : FVec Ideal S8x256 .f32 := transpose S8x256 [1, 0] e transposes_S256x8_S8x256_1_0

/-- The negated squared distances of the windows to the codebook's rows, as the reference computes them. -/
def negDist (x : FVec Ideal S32x4096x2x4 .f32) (e : FVec Ideal S256x8 .f32) : FVec Ideal S131072x256 .f32 :=
  Host.negf (addf
    (subf
      (broadcastInDim S131072x256 ![0, 1] bcast_S131072x1_S131072x256_0_1
        (broadcastInDim S131072x1 ![0] bcast_S131072_S131072x1_0
          (Host.reduceAdd (mulf (rows x) (rows x)) (constant S_ .f32 0x00000000#32) reducesTo_S131072x8_S131072_d1 h_S_)))
      (mulf (broadcastInDim S131072x256 ![] bcast_S_S131072x256 (constant S_ .f32 0x40000000#32))
        (Host.dotGeneral dot_S131072x8_S8x256_S131072x256_1_0_0_1_n_n none (rows x) (cols e))))
    (broadcastInDim S131072x256 ![0, 1] bcast_S1x256_S131072x256_0_1
      (broadcastInDim S1x256 ![1] bcast_S256_S1x256_1
        (Host.reduceAdd (mulf (cols e) (cols e)) (constant S_ .f32 0x00000000#32) reducesTo_S8x256_S256_d0 h_S_))))

/-- For each window the index the reference's reduction of values with their indices ends with. -/
def argMax (v : FVec Ideal S131072x256 .f32) : IVec S131072 32 :=
  fun j => (Host.argReduce reducer_argmax_f32_i32 v (iotaInDim S131072x256 32 1) (constant S_ .f32 0xFF800000#32)
    (constantI S_ 32 0#32) reducesTo_S131072x256_S131072_d1 h_S_ j).2

/-- The reference's result. -/
def refOut (x : FVec Ideal S32x4096x2x4 .f32) (e : FVec Ideal S256x8 .f32) : IVec S32x4096 32 :=
  fun i => shapeCast S32x4096 (argMax (negDist x e)) shapeCasts_S131072_S32x4096 i

/-- The reference ends with its result at `refOut` of its arguments, and its arguments unchanged. -/
theorem run_main (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v17) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

/-- The reference runs to an end with its arguments unchanged; it has no semaphore. -/
theorem frame : Cert.quiescent_ReferenceIdeal := fun m g _ =>
  (θ_run Cert.ReferenceIdeal.defs _ _).mono (fun r h => ⟨fun c => (h c).2, sem_eq_zero_of_no_sems (by decide) r.2⟩) (run_main m g)

end Cert.Proof.Reference

end
-- ==== Proof.Nearest.lean ====
/-
  The arithmetic behind the codes. A window is eight real projections `r`, row `n` of the codebook holds the eight bits of `n`, and the
  squared distance of the window to the row is `∑ r² - 2 ∑ r ε + ∑ ε²` with `ε` the row. Each bit set adds `1 - 2 r b` to it, so the row
  whose bits say which projections are above one half is a nearest row, and the nearest rows all hold its bits, so it is the first of them.
  The second half is the reduction by which an arg-max goes over values with their indices: started below every value, it ends with the
  pair whose value is greatest and whose index is least among the greatest.
-/
module

public import Idealize.ShloMosaic.Lib.Pointwise

@[expose] public section

noncomputable section

namespace Cert.Proof.Nearest

open scoped BigOperators

/-- Entry `b` of row `n` of the codebook: bit `b` of `n`. -/
def entry (n b : ℕ) : ℝ := if n.testBit b then 1 else 0

/-- The squared distance of the window `r` to row `n`, as the sum of its three terms. -/
def dist (r : Fin 8 → ℝ) (n : ℕ) : ℝ :=
  ∑ b, r b * r b - 2 * ∑ b : Fin 8, r b * entry n b + ∑ b : Fin 8, entry n b * entry n b

/-- The number whose eight bits are `p`. -/
def number (p : Fin 8 → Bool) : ℕ :=
  (p 0).toNat + 2 * (p 1).toNat + 4 * (p 2).toNat + 8 * (p 3).toNat + 16 * (p 4).toNat + 32 * (p 5).toNat + 64 * (p 6).toNat + 128 * (p 7).toNat

/-- Eight bits make a number below 256. -/
theorem number_lt (p : Fin 8 → Bool) : number p < 256 := by
  have h : ∀ b, (p b).toNat ≤ 1 := fun b => Bool.toNat_le (p b)
  have := h 0; have := h 1; have := h 2; have := h 3; have := h 4; have := h 5; have := h 6; have := h 7
  unfold number; omega

/-- The bits of that number are the eight. -/
theorem number_testBit (p : Fin 8 → Bool) (b : Fin 8) : (number p).testBit b = p b := by
  have key : ∀ (p0 p1 p2 p3 p4 p5 p6 p7 : Bool) (b : Fin 8),
      ((p0.toNat + 2 * p1.toNat + 4 * p2.toNat + 8 * p3.toNat + 16 * p4.toNat + 32 * p5.toNat + 64 * p6.toNat + 128 * p7.toNat).testBit b)
        = (![p0, p1, p2, p3, p4, p5, p6, p7] : Fin 8 → Bool) b := by
    decide +kernel
  have e : (![p 0, p 1, p 2, p 3, p 4, p 5, p 6, p 7] : Fin 8 → Bool) = p := by
    funext b; fin_cases b <;> rfl
  exact (key (p 0) (p 1) (p 2) (p 3) (p 4) (p 5) (p 6) (p 7) b).trans (congrFun e b)

/-- Which projections are above one half. -/
def above (r : Fin 8 → ℝ) : Fin 8 → Bool := fun b => decide (1 / 2 < r b)

/-- The distance is that to row zero less what each set bit gains. -/
theorem dist_eq (r : Fin 8 → ℝ) (n : ℕ) : dist r n = ∑ b, r b * r b - ∑ b : Fin 8, entry n b * (2 * r b - 1) := by
  have h : ∀ b : Fin 8, entry n b * (2 * r b - 1) = 2 * (r b * entry n b) - entry n b * entry n b := by
    intro b; unfold entry; split <;> ring
  simp only [dist, h, Finset.sum_sub_distrib, ← Finset.mul_sum]
  ring

/-- No row gains more at a bit than the row of the projections above one half. -/
theorem gain_le (r : Fin 8 → ℝ) (n : ℕ) (b : Fin 8) :
    entry n b * (2 * r b - 1) ≤ entry (number (above r)) b * (2 * r b - 1) := by
  unfold entry
  rw [number_testBit]
  by_cases h : 1 / 2 < r b
  · simp only [above, h, decide_true, if_true]
    split <;> nlinarith
  · simp only [above, h, decide_false]
    split <;> simp <;> linarith

/-- The row of the projections above one half is a nearest row. -/
theorem dist_min (r : Fin 8 → ℝ) (n : ℕ) : dist r (number (above r)) ≤ dist r n := by
  rw [dist_eq, dist_eq]
  exact sub_le_sub_left (Finset.sum_le_sum fun b _ => gain_le r n b) _

/-- It is the first nearest row. -/
theorem dist_first (r : Fin 8 → ℝ) (n : ℕ) (h : dist r (number (above r)) = dist r n) : number (above r) ≤ n := by
  rw [dist_eq, dist_eq, sub_right_inj] at h
  have ht := (Finset.sum_eq_sum_iff_of_le fun b _ => gain_le r n b).mp h.symm
  have hand : number (above r) &&& n = number (above r) := by
    apply Nat.eq_of_testBit_eq
    intro i
    rw [Nat.testBit_and]
    by_cases hi : i < 8
    · have hb := number_testBit (above r) ⟨i, hi⟩
      have hti := ht ⟨i, hi⟩ (Finset.mem_univ _)
      simp only at hb hti
      rw [hb]
      by_cases hr : 1 / 2 < r ⟨i, hi⟩
      · unfold entry at hti
        rw [hb] at hti
        simp only [above, hr, decide_true, if_true, Bool.true_and] at hti ⊢
        by_contra hn
        simp only [hn, if_false] at hti
        simp at hti
        linarith
      · rw [show above r ⟨i, hi⟩ = false from decide_eq_false hr]; rfl
    · rw [Nat.testBit_lt_two_pow (lt_of_lt_of_le (number_lt _) (Nat.pow_le_pow_right (n := 2) (by decide) (Nat.le_of_not_lt hi)) : _ < 2 ^ i)]
      rfl
  rw [← hand]
  exact Nat.and_le_right

/-! ## The reduction over values with their indices -/

/-- The pair `p` comes out against `q`: its value is greater, or equal with an index not greater. -/
def Best {α : Type} [LT α] (p q : α × BitVec 32) : Prop := q.1 < p.1 ∨ (q.1 = p.1 ∧ p.2.toInt ≤ q.2.toInt)

/-- A left fold by a body that returns one of its two pairs, and the one that is `p` if the other does not come out against `p`, ends
    with `p` once `p` is met. -/
theorem foldl_best {α : Type} (G : α → Prop) (f : α → α → α) (p : α) (hl : ∀ b, G b → f p b = p) (hr : ∀ a, G a → f a p = p)
    (hf : ∀ a b, f a b = a ∨ f a b = b) :
    ∀ (l : List α) (acc : α), (∀ q ∈ l, G q) → G acc → (acc = p ∨ p ∈ l) → l.foldl f acc = p
  | [], acc, _, _, h => h.elim id (fun h => nomatch h)
  | b :: l, acc, hG, ha, h => by
    refine foldl_best G f p hl hr hf l (f acc b) (fun q hq => hG q (List.mem_cons_of_mem _ hq)) ?_ ?_
    · rcases hf acc b with e | e <;> rw [e]
      · exact ha
      · exact hG b List.mem_cons_self
    · rcases h with rfl | h
      · exact .inl (hl b (hG b List.mem_cons_self))
      · rcases List.mem_cons.mp h with rfl | h
        · exact .inl (hr acc ha)
        · exact .inr h

end Cert.Proof.Nearest

end
-- ==== Proof.ReferenceValue.lean ====
/-
  The value of the reference at the ideal instance, under the precondition that every projection is a finite number and the codebook
  holds in row `n` the bits of `n`: the index its arg-max ends with for a window is the window's code, the number whose bits say which
  projections lie above one half.
-/
module

public import proofs.«01_k».proof.Proof.ReferenceRun
public import proofs.«01_k».proof.Proof.Nearest
public import proofs.«01_k».proof.Proof.Word
public import proofs.«01_k».proof.Proof.Gen.Pre_codebook
public import Idealize.ShloMosaic.Lib.Pointwise
public import Idealize.ShloMosaic.Lib.IdealHost
public import Idealize.ShloMosaic.Lib.ReduceAll

@[expose] public section

noncomputable section

namespace Cert.Proof.Reference

open Cert.ReferenceIdeal Cert.ReferenceIdeal.Gen
open Idealize.ShloMosaic Idealize.SL.Sem
open Cert.Proof.Nearest (entry number above)

/-! ## Constants -/

/-- The literal 2. -/
theorem ofBits_two : Ideal.ofBits FTy.f32 1073741824#32 = ((2 : ℝ) : EReal) := by
  simp [Ideal.ofBits, Ideal.ieee, -EReal.coe_mul]; norm_num

/-- The literal 0.5. -/
theorem ofBits_half : Ideal.ofBits FTy.f32 0x3F000000#32 = ((1 / 2 : ℝ) : EReal) := by
  simp [Ideal.ofBits, Ideal.ieee, -EReal.coe_mul]; norm_num

/-- The literal of positive infinity. -/
theorem ofBits_top : Ideal.ofBits FTy.f32 0x7F800000#32 = ⊤ := by simp [Ideal.ofBits, Ideal.ieee]

/-- The literal of negative infinity. -/
theorem ofBits_bot : Ideal.ofBits FTy.f32 0xFF800000#32 = ⊥ := by simp [Ideal.ofBits, Ideal.ieee]

/-! ## The distances -/

/-- An element of the negated distances. -/
theorem negDist_at (x : FVec Ideal S32x4096x2x4 .f32) (e : FVec Ideal S256x8 .f32) (t : Fin 131072) (n : Fin 256) :
    negDist x e (ix2 t n)
      = -(∑ k : Fin 8, rows x (ix2 t k) * rows x (ix2 t k) - Ideal.ofBits FTy.f32 1073741824#32 * ∑ k : Fin 8, rows x (ix2 t k) * e (ix2 n k)
          + ∑ k : Fin 8, e (ix2 n k) * e (ix2 n k) : EReal) := by
  pointwise [negDist, cols]

/-- A sum of eight reals, taken among the extended reals. -/
theorem coe_sum8 (f : Fin 8 → ℝ) : (∑ b, ((f b : ℝ) : EReal)) = ((∑ b, f b : ℝ) : EReal) := by
  simp only [Fin.sum_univ_eight, EReal.coe_add]

/-- On finite projections and the codebook of bits it is the real number `-Nearest.dist`. -/
theorem negDist_real (x : FVec Ideal S32x4096x2x4 .f32) (e : FVec Ideal S256x8 .f32) (t : Fin 131072) (r : Fin 8 → ℝ)
    (hr : ∀ b, rows x (ix2 t b) = ((r b : ℝ) : EReal)) (he : ∀ (n : Fin 256) (b : Fin 8), e (ix2 n b) = ((entry n.val b.val : ℝ) : EReal))
    (n : Fin 256) : negDist x e (ix2 t n) = ((-Nearest.dist r n.val : ℝ) : EReal) := by
  rw [negDist_at]
  simp only [hr, he, ofBits_two, ← EReal.coe_mul, coe_sum8, ← EReal.coe_sub, ← EReal.coe_add, ← EReal.coe_neg]
  rfl

/-! ## The arg-max -/

/-- The reducer keeps its left pair's value or its right pair's, with the index of the same pair, except that among equal values it keeps
    the lesser index. -/
theorem reducer_eq (a b : EReal × BitVec 32) :
    reducer_argmax_f32_i32 (F := Ideal) a b = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, IntOp.cmpi, Scalar.select, IntOp.ori, IntOp.andi, BitVec.slt]
  by_cases h1 : b1 < a1
  · have ht : ∀ c : BitVec 1, 1#1 ||| c = 1#1 := by decide
    simp [h1, ht]
  · by_cases h2 : a1 = b1
    · subst h2
      by_cases h3 : a2.toInt < b2.toInt <;> simp [h3]
    · simp [h1, h2]

/-- A reduction of values with their indices ends, at result index `j`, with the pair at a source index `k` over `j`, when that pair
    comes out against every other over `j` and the initial pair; `G` says what the others satisfy. -/
theorem reduce2_best {s t u : Shape} {axes : List (Fin s.rank)} {α β : Type} (f : α × β → α × β → α × β) (x : s.Idx → α) (y : s.Idx → β)
    (ix : u.Idx → α) (iy : u.Idx → β) (h : s.ReducesTo axes t) (hu : 0 < u.numel) (j : t.Idx) (G : α × β → Prop) (k : s.Idx)
    (hk : h.drop k = j) (hG : ∀ i, h.drop i = j → G (x i, y i)) (h0 : G (ix (Shape.Idx.first hu), iy (Shape.Idx.first hu)))
    (hl : ∀ b, G b → f (x k, y k) b = (x k, y k)) (hr : ∀ a, G a → f a (x k, y k) = (x k, y k)) (hf : ∀ a b, f a b = a ∨ f a b = b) :
    Host.reduce2 f x y ix iy h hu j = (x k, y k) := by
  rw [Host.reduce2_eq_foldl_fiber]
  refine Nearest.foldl_best G f (x k, y k) hl hr hf _ _ (fun q hq => ?_) h0 (.inr ?_)
  · simp only [Host.argReduceFiber, List.mem_map, List.mem_filter] at hq
    obtain ⟨l, ⟨_, hl⟩, rfl⟩ := hq
    exact hG _ (of_decide_eq_true hl)
  · simp only [Host.argReduceFiber, List.mem_map, List.mem_filter]
    exact ⟨s.rowMajor k, ⟨List.mem_finRange _, by rw [Equiv.symm_apply_apply]; exact decide_eq_true hk⟩, by rw [Equiv.symm_apply_apply]⟩

/-- At the ideal instance the arg-max's reduction is that one. -/
theorem snd_argReduce {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel) (j : t.Idx)
    {p : Ideal .f32 × β} (e : Host.reduce2 f x y ix iy h hu j = p) : (Host.argReduce f x y ix iy h hu j).2 = p.2 := by
  rw [Ideal.argReduce_eq_reduce2, e]

/-- A row number as a signed word. -/
theorem toInt_row (n : Fin 256) : (BitVec.ofNat 32 n.val).toInt = (n.val : ℤ) := by
  revert n; decide +kernel

/-- A pair of row `k` stays when it stands left of a pair of lesser value, or of equal value and an index not less. -/
theorem reducer_left (v : EReal) (k : Fin 256) (b : EReal × BitVec 32) (hG : b.1 < v ∨ (b.1 = v ∧ (k.val : ℤ) ≤ b.2.toInt)) :
    reducer_argmax_f32_i32 (F := Ideal) (v, BitVec.ofNat 32 k.val) b = (v, BitVec.ofNat 32 k.val) := by
  obtain ⟨b1, b2⟩ := b
  rw [reducer_eq]
  simp only [toInt_row] at hG ⊢
  rcases hG with h | ⟨h, h'⟩
  · rw [if_pos (.inl h)]
  · subst h
    split
    · rfl
    · rename_i hn
      have : b2.toInt = (k.val : ℤ) := by
        have := not_and.mp (not_or.mp hn).2 rfl
        omega
      rw [← toInt_row] at this
      rw [BitVec.eq_of_toInt_eq this]

/-- It comes through when it stands right of such a pair. -/
theorem reducer_right (v : EReal) (k : Fin 256) (a : EReal × BitVec 32) (hG : a.1 < v ∨ (a.1 = v ∧ (k.val : ℤ) ≤ a.2.toInt)) :
    reducer_argmax_f32_i32 (F := Ideal) a (v, BitVec.ofNat 32 k.val) = (v, BitVec.ofNat 32 k.val) := by
  obtain ⟨a1, a2⟩ := a
  rw [reducer_eq]
  simp only [toInt_row] at hG ⊢
  rw [if_neg]
  rintro (h | ⟨h, h'⟩)
  · rcases hG with g | ⟨g, _⟩
    · exact lt_asymm h g
    · exact absurd (g ▸ h) (lt_irrefl _)
  · rcases hG with g | ⟨_, g⟩
    · exact absurd (h ▸ g) (lt_irrefl _)
    · omega

/-- The reduction over the second axis takes row `t` to result `t`. -/
theorem drop_ix2 (t : Fin 131072) (n : Fin 256) : reducesTo_S131072x256_S131072_d1.drop (ix2 t n) = ix1 t := by
  funext a
  fin_cases a
  rfl

/-- The index array holds the second coordinate. -/
theorem iota_ix2 (t : Fin 131072) (n : Fin 256) : iotaInDim S131072x256 32 1 (ix2 t n) = BitVec.ofNat 32 n.val := rfl

/-- An index of rank one is its coordinate. -/
theorem ix1_inj {a b : Fin 131072} (h : ix1 a = ix1 b) : a = b := congrFun h 0

/-- Every pair over result `t` is one that row `k` comes out against, if row `k` holds the first greatest value. -/
theorem row_good (v : FVec Ideal S131072x256 .f32) (t : Fin 131072) (k : Fin 256)
    (hk : ∀ n : Fin 256, v (ix2 t n) < v (ix2 t k) ∨ (v (ix2 t n) = v (ix2 t k) ∧ k.val ≤ n.val)) (i : S131072x256.Idx)
    (hi : reducesTo_S131072x256_S131072_d1.drop i = ix1 t) :
    v i < v (ix2 t k) ∨ (v i = v (ix2 t k) ∧ (k.val : ℤ) ≤ (iotaInDim S131072x256 32 1 i).toInt) := by
  obtain ⟨i0, i1, rfl⟩ : ∃ a b, i = ix2 a b := ⟨i 0, i 1, eq_ix2 i⟩
  rw [drop_ix2] at hi
  have h0 := ix1_inj hi
  subst h0
  rw [iota_ix2, toInt_row]
  rcases hk i1 with h | ⟨h, h'⟩
  · exact .inl h
  · exact .inr ⟨h, Int.ofNat_le.mpr h'⟩

/-- The initial value, negative infinity, is below every value that is not. -/
theorem init_good (w : EReal) (hb : (⊥ : EReal) < w) (i : S_.Idx) : (constant (F := Ideal) S_ .f32 0xFF800000#32 i : EReal) < w := by
  show Ideal.ofBits FTy.f32 0xFF800000#32 < _
  rw [ofBits_bot]
  exact hb

/-- The reducer returns one of its two pairs. -/
theorem reducer_or (a b : EReal × BitVec 32) :
    reducer_argmax_f32_i32 (F := Ideal) a b = a ∨ reducer_argmax_f32_i32 (F := Ideal) a b = b := by
  rw [reducer_eq]
  split
  · exact .inl rfl
  · exact .inr rfl

/-- The reduction ends with the first greatest value and its index. -/
theorem argMax_pair (v : FVec Ideal S131072x256 .f32) (t : Fin 131072) (k : Fin 256) (hb : (⊥ : EReal) < v (ix2 t k))
    (hk : ∀ n : Fin 256, v (ix2 t n) < v (ix2 t k) ∨ (v (ix2 t n) = v (ix2 t k) ∧ k.val ≤ n.val)) :
    Host.reduce2 (reducer_argmax_f32_i32 (F := Ideal)) v (iotaInDim S131072x256 32 1) (constant S_ .f32 0xFF800000#32)
      (constantI S_ 32 0#32) reducesTo_S131072x256_S131072_d1 h_S_ (ix1 t) = (v (ix2 t k), iotaInDim S131072x256 32 1 (ix2 t k)) :=
  reduce2_best (reducer_argmax_f32_i32 (F := Ideal)) v _ _ _ _ _ (ix1 t)
    (fun q : EReal × BitVec 32 => q.1 < v (ix2 t k) ∨ (q.1 = v (ix2 t k) ∧ (k.val : ℤ) ≤ q.2.toInt)) (ix2 t k) (drop_ix2 t k)
    (row_good v t k hk) (.inl (init_good _ hb (Shape.Idx.first h_S_)))
    (fun b h => by rw [iota_ix2]; exact reducer_left _ k b h) (fun a h => by rw [iota_ix2]; exact reducer_right _ k a h) reducer_or

/-- The arg-max, spelt out. -/
theorem argMax_def (v : FVec Ideal S131072x256 .f32) :
    argMax v = fun j => (Host.argReduce reducer_argmax_f32_i32 v (iotaInDim S131072x256 32 1) (constant S_ .f32 0xFF800000#32)
      (constantI S_ 32 0#32) reducesTo_S131072x256_S131072_d1 h_S_ j).2 :=
  Eq.refl (argMax v)

/-- The index the arg-max ends with on row `t`: that of the pair that comes out against every pair of the row. -/
theorem argMax_at (v : FVec Ideal S131072x256 .f32) (t : Fin 131072) (k : Fin 256) (hb : (⊥ : EReal) < v (ix2 t k))
    (hk : ∀ n : Fin 256, v (ix2 t n) < v (ix2 t k) ∨ (v (ix2 t n) = v (ix2 t k) ∧ k.val ≤ n.val)) :
    argMax v (ix1 t) = BitVec.ofNat 32 k.val := by
  rw [argMax_def]
  beta_reduce
  rw [snd_argReduce _ v _ _ _ _ _ _ (argMax_pair v t k hb hk)]
  exact iota_ix2 t k

/-! ## The code -/

/-- What a real projection adds to the code. -/
theorem bit_real (r : ℝ) (b : ℕ) :
    Word.bit (F := Ideal) ((r : ℝ) : EReal) b = if decide (1 / 2 < r) then 1#32 <<< b else 0#32 := by
  unfold Word.bit
  have h : (Scalar.ofBits .f32 0x3F000000#32 : Ideal .f32) = ((1 / 2 : ℝ) : EReal) := ofBits_half
  rw [h, Ideal.cmpf_def]
  simp only [Ideal.cmp, Scalar.select, EReal.coe_lt_coe_iff]
  by_cases hr : 1 / 2 < r
  · simp only [hr, decide_true, if_true]; rfl
  · simp only [hr, decide_false]; rfl

/-- The code of eight real projections is the number whose bits say which are above one half. -/
theorem code_real (y : ℕ → EReal) (r : Fin 8 → ℝ) (hy : ∀ b : Fin 8, y b.val = ((r b : ℝ) : EReal)) :
    Word.code (F := Ideal) y = BitVec.ofNat 32 (number (above r)) := by
  have key : ∀ p0 p1 p2 p3 p4 p5 p6 p7 : Bool,
      (if p0 then 1#32 <<< 0 else 0#32) + (if p1 then 1#32 <<< 1 else 0#32) + (if p2 then 1#32 <<< 2 else 0#32)
        + (if p3 then 1#32 <<< 3 else 0#32) + (if p4 then 1#32 <<< 4 else 0#32) + (if p5 then 1#32 <<< 5 else 0#32)
        + (if p6 then 1#32 <<< 6 else 0#32) + (if p7 then 1#32 <<< 7 else 0#32)
      = BitVec.ofNat 32 (p0.toNat + 2 * p1.toNat + 4 * p2.toNat + 8 * p3.toNat + 16 * p4.toNat + 32 * p5.toNat + 64 * p6.toNat + 128 * p7.toNat) := by
    decide +kernel
  unfold Word.code
  have h0 := hy 0; have h1 := hy 1; have h2 := hy 2; have h3 := hy 3
  have h4 := hy 4; have h5 := hy 5; have h6 := hy 6; have h7 := hy 7
  rw [show y 0 = _ from h0, show y 1 = _ from h1, show y 2 = _ from h2, show y 3 = _ from h3, show y 4 = _ from h4, show y 5 = _ from h5,
    show y 6 = _ from h6, show y 7 = _ from h7]
  simp only [bit_real]
  exact key _ _ _ _ _ _ _ _

/-! ## The precondition -/

/-- What the precondition says at the ideal instance. -/
structure Good (x : FVec Ideal S32x4096x2x4 .f32) (e : FVec Ideal S256x8 .f32) : Prop where
  finite : ∀ i, ∃ r : ℝ, x i = ((r : ℝ) : EReal)
  book : ∀ (n : Fin 256) (b : Fin 8), e (ix2 n b) = ((entry n.val b.val : ℝ) : EReal)

/-- The shifted and masked row number is the bit. -/
theorem book_entry : ∀ (n : Fin 256) (b : Fin 8),
    (IntOp.andi (IntOp.shrsi .host (BitVec.ofNat 32 n.val) (BitVec.ofNat 32 b.val)) 1#32).toInt = if n.val.testBit b.val then 1 else 0 := by
  decide +kernel

/-- An extended real whose absolute value is below infinity is a real. -/
theorem real_of_lt (a : EReal) (h : max a (-a) < ⊤) : ∃ r : ℝ, a = ((r : ℝ) : EReal) := by
  induction a with
  | bot => simp at h
  | coe r => exact ⟨r, rfl⟩
  | top => simp at h

/-- A comparison that came out as 1 holds. -/
theorem bit_of_decide (p : Prop) [Decidable p] (h : BitVec.ofBool (decide p) = 1#1) : p := by
  by_contra hn
  rw [decide_eq_false hn] at h
  exact absurd h (by decide)

/-- The precondition says that the projections are real and the codebook holds the bits. -/
theorem good_of_pre (x : FVec Ideal S32x4096x2x4 .f32) (e : FVec Ideal S256x8 .f32) (j : Cert.Pre_codebook.S_.Idx)
    (h : Cert.Pre_codebook.fn (F := Ideal) x e j = 1#1) : Good x e := by
  haveI : Subsingleton Cert.Pre_codebook.S_.Idx := ⟨fun a b => by funext i; exact i.elim0⟩
  dsimp only [Cert.Pre_codebook.fn] at h
  have hand : ∀ a b : BitVec 1, IntOp.andi a b = 1#1 → a = 1#1 ∧ b = 1#1 := by decide
  obtain ⟨hx, he⟩ := hand _ _ h
  refine ⟨fun i => ?_, fun n b => ?_⟩
  · have hi := Host.reduce_andi_all _ _ _ _ _ hx i
    have hi' : Ideal.cmp .olt (max (x i) (-(x i))) (Ideal.ofBits FTy.f32 0x7F800000#32) = 1#1 := hi
    rw [ofBits_top] at hi'
    simp only [Ideal.cmp] at hi'
    have hlt : max (x i) (-(x i)) < (⊤ : EReal) := bit_of_decide _ hi'
    exact real_of_lt (x i) hlt
  · have hi := Host.reduce_andi_all _ _ _ _ _ he (ix2 n b)
    have hi' : Ideal.cmp .oeq (e (ix2 n b))
      (((IntOp.andi (IntOp.shrsi .host (BitVec.ofNat 32 n.val) (BitVec.ofNat 32 b.val)) 1#32).toInt : ℝ) : EReal) = 1#1 := hi
    rw [book_entry] at hi'
    simp only [Ideal.cmp] at hi'
    have heq : e (ix2 n b) = (((if n.val.testBit b.val then (1 : ℤ) else 0 : ℤ) : ℝ) : EReal) := bit_of_decide _ hi'
    rw [heq]
    unfold entry
    split <;> simp only [Int.cast_one, Int.cast_zero]

/-! ## The result -/

/-- The projections are elements of the argument. -/
theorem rows_at (x : FVec Ideal S32x4096x2x4 .f32) (j : S131072x8.Idx) : ∃ i, rows x j = x i := ⟨_, rfl⟩

/-- The reference's arg-max of a window is the window's code. -/
theorem argMax_code (x : FVec Ideal S32x4096x2x4 .f32) (e : FVec Ideal S256x8 .f32) (hg : Good x e) (t : Fin 131072) (y : ℕ → EReal)
    (hy : ∀ b : Fin 8, y b.val = rows x (ix2 t b)) : argMax (negDist x e) (ix1 t) = Word.code (F := Ideal) y := by
  have hf : ∀ b : Fin 8, ∃ r : ℝ, rows x (ix2 t b) = ((r : ℝ) : EReal) := fun b => by
    obtain ⟨i, hi⟩ := rows_at x (ix2 t b)
    rw [hi]
    exact hg.finite i
  choose r hr using hf
  rw [code_real y r fun b => (hy b).trans (hr b)]
  have hd := negDist_real x e t r hr hg.book
  refine argMax_at (negDist x e) t ⟨number (above r), Nearest.number_lt _⟩ ?_ fun n => ?_
  · rw [hd]; exact EReal.bot_lt_coe _
  · rw [hd, hd, EReal.coe_lt_coe_iff, EReal.coe_eq_coe_iff]
    rcases (Nearest.dist_min r n.val).lt_or_eq with h | h
    · exact .inl (neg_lt_neg h)
    · exact .inr ⟨by rw [h], Nearest.dist_first r n.val h⟩

end Cert.Proof.Reference

end
-- ==== Proof.Value.lean ====
/-
  The two results are one array: under the precondition the codes the kernel leaves are the indices the reference's arg-max ends with.
-/
module

public import proofs.«01_k».proof.Proof.KernelIdealRun
public import proofs.«01_k».proof.Proof.ReferenceValue

@[expose] public section

noncomputable section

namespace Cert.Proof.Value

open Idealize.ShloMosaic Idealize.SL.Sem

/-- Two reshapes of one array agree at indices of equal position in row-major order. -/
theorem shapeCast_eq {α : Type} {s t t' : Shape} (x : s.Idx → α) (h : s.ShapeCasts t) (h' : s.ShapeCasts t') (j : t.Idx) (j' : t'.Idx)
    (e : (t.rowMajor j).val = (t'.rowMajor j').val) : shapeCast t x h j = shapeCast t' x h' j' :=
  shapeCast_apply x h j (Shape.reshapeEquiv h' j') ((Shape.rowMajor_reshapeEquiv h' j').trans e.symm)

/-- Projection `b` of window `t` in the kernel's flat array and in the reference's rows. -/
theorem flat_rows (x : FVec Ideal Cert.ReferenceIdeal.S32x4096x2x4 .f32)
    (h : Cert.KernelIdeal.S32x4096x2x4.ShapeCasts Cert.KernelIdeal.S1048576) (t : Fin 131072) (b : Fin 8) :
    shapeCast Cert.KernelIdeal.S1048576 x h (KernelIdeal.ixG (8 * t.val + b.val)) = Reference.rows x (ix2 t b) := by
  refine shapeCast_eq x _ _ _ _ ?_
  rw [Shape.rowMajor_val_one, Shape.rowMajor_val_two]
  have ht := t.isLt
  have hb := b.isLt
  show (8 * t.val + b.val) % 1048576 = t.val * 8 + b.val
  omega

/-- The kernel's flat codes are the reference's arg-max. -/
theorem codes_argMax (x : FVec Ideal Cert.ReferenceIdeal.S32x4096x2x4 .f32) (e : FVec Ideal Cert.ReferenceIdeal.S256x8 .f32)
    (hg : Reference.Good x e) (h : Cert.KernelIdeal.S32x4096x2x4.ShapeCasts Cert.KernelIdeal.S1048576) :
    KernelIdeal.codes (F := Ideal) (fun i => shapeCast Cert.KernelIdeal.S1048576 x h i) = Reference.argMax (Reference.negDist x e) := by
  funext j
  rw [eq_ix1 j]
  exact (Reference.argMax_code x e hg (j 0) _ fun b => flat_rows x h (j 0) b).symm

/-- The kernel's result is the reference's. -/
theorem out_eq (m : (ℓ : Loc Cert.KernelIdeal.nD Cert.KernelIdeal.τ Cert.KernelIdeal.sig) → Buf (Elt Ideal) ℓ) (c : Dev Cert.KernelIdeal.nD)
    (x : FVec Ideal Cert.ReferenceIdeal.S32x4096x2x4 .f32) (hx : x = m (KernelIdeal.aLoc c)) (e : FVec Ideal Cert.ReferenceIdeal.S256x8 .f32)
    (hg : Reference.Good x e) : KernelIdeal.out m c = Reference.refOut x e := by
  subst hx
  have h := codes_argMax (m (KernelIdeal.aLoc c)) e hg Cert.KernelIdeal.Gen.shapeCasts_S32x4096x2x4_S1048576
  funext i
  exact congrArg (fun f => shapeCast Cert.ReferenceIdeal.S32x4096 f Cert.ReferenceIdeal.Gen.shapeCasts_S131072_S32x4096 i) h

end Cert.Proof.Value

end
-- ==== Proof.lean ====
/-
  The certificate's proof: the five claims put together from the runs of the three programs and the equality of the two results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_codebook
public import proofs.«01_k».proof.Proof.KernelRun
public import proofs.«01_k».proof.Proof.KernelIdealRun
public import proofs.«01_k».proof.Proof.ReferenceRun
public import proofs.«01_k».proof.Proof.Value
public import Idealize.ShloMosaic.Adequacy
public import Idealize.ShloMosaic.Init

@[expose] public section

noncomputable section

namespace Cert.Proof

open Idealize.ShloMosaic Idealize.SL.Sem

/-- The kernel over bit-level floats ends, with its arguments unchanged and every counter at zero. -/
theorem frame_kernel : Cert.quiescent_Kernel := fun m g _ =>
  (θ_run (Cert.Kernel.defs (F := Bits)) _ _).mono (fun _ h => ⟨fun c => (h.1 c).2, h.2⟩) (Kernel.run_main (F := Bits) m g)

/-- The kernel over extended reals ends likewise. -/
theorem frame_kernelIdeal : Cert.quiescent_KernelIdeal := fun m g _ =>
  (θ_run (Cert.KernelIdeal.defs (F := Ideal)) _ _).mono (fun _ h => ⟨fun c => (h.1 c).2, h.2⟩) (KernelIdeal.run_main (F := Ideal) m g)

/-- Over extended reals, from arguments that meet the precondition, kernel and reference end with one result. -/
theorem algebraic : Cert.algebraic_KernelIdeal_ReferenceIdeal_pre_codebook := fun m g m' g' hpre hargs => by
  refine ⟨fun c => KernelIdeal.out m c, ?_, ?_⟩
  · exact (θ_run (Cert.KernelIdeal.defs (F := Ideal)) _ _).mono (fun _ h => h.1) (KernelIdeal.run_main (F := Ideal) m g)
  · refine (θ_run (Cert.ReferenceIdeal.defs (F := Ideal)) _ _).mono (fun r h c => ⟨(h c).1.trans ?_, (h c).2⟩) (Reference.run_main m' g')
    have hgood := Reference.good_of_pre _ _ (fun a => a.elim0) (congrFun (hpre c) _)
    rw [(hargs c).1, (hargs c).2]
    exact (Value.out_eq m c _ rfl _ hgood).symm

/-- Every claim of the certificate. -/
theorem claim : Cert.Claim :=
  ⟨Cert.Kernel.Gen.facts, Cert.KernelIdeal.Gen.facts, Cert.ReferenceIdeal.Gen.facts, Cert.Pre_codebook.Gen.facts,
    frame_kernel, frame_kernelIdeal, fun m g _ => frame_kernelIdeal m g trivial, Reference.frame,
    fun m g _ => Reference.frame m g trivial, trivial, algebraic⟩

end Cert.Proof

end
